-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "s" .bf16 0x3DB5#16 (((Real.sqrt 128)⁻¹ : ℝ) : EReal)

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = Layout.blockN ⟨4, ![1, 1024, 16, 128]⟩ ⟨4, ![1, 2048, 16, 128]⟩ (Layout.meshBlock [2, 2] ![[], [1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![1, 1024, 16, 128]⟩ ⟨4, ![1, 2048, 16, 128]⟩ (Layout.meshBlock [2, 2] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![1, 1024, 16, 128]⟩ ⟨4, ![1, 2048, 16, 128]⟩ (Layout.meshBlock [2, 2] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = Layout.blockN ⟨4, ![1, 1024, 16, 128]⟩ ⟨4, ![1, 2048, 16, 128]⟩ (Layout.meshBlock [2, 2] ![[], [1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S1x1024x16x128 : Shape := ⟨4, ![1, 1024, 16, 128]⟩
abbrev S_ : Shape := ⟨0, ![]⟩

class Facts : Prop where
  bitsLt_bf16_f32 : FTy.bits .bf16 < FTy.bits .f32
  bcast_S_S1x1024x16x128 : S_.BroadcastsInDim S1x1024x16x128 (![] : Fin 0 → Fin S1x1024x16x128.rank)
  reducesTo_S1x1024x16x128_S_d0_1_2_3 : S1x1024x16x128.ReducesTo [0, 1, 2, 3] S_
  h_S_ : 0 < S_.numel

variable [Facts]

def fn {F : FTy → Type} [FloatOps F] (main_arg0 : FVec F S1x1024x16x128 .bf16) (main_arg1 : FVec F S1x1024x16x128 .bf16) (main_arg2 : FVec F S1x1024x16x128 .bf16) : IVec S_ 1 :=
  let main_v0 : FVec F S1x1024x16x128 .f32 := (extf .f32 · bitsLt_bf16_f32) main_arg0
  let main_v1 : FVec F S1x1024x16x128 .f32 := Host.absf main_v0
  let main_cst : FVec F S_ .f32 := constant S_ .f32 0x7F800000#32
  let main_v2 : FVec F S1x1024x16x128 .f32 := broadcastInDim S1x1024x16x128 ![] bcast_S_S1x1024x16x128 main_cst
  let main_v3 : IVec S1x1024x16x128 1 := cmpf .olt main_v1 main_v2
  let main_v4 : FVec F S1x1024x16x128 .f32 := (extf .f32 · bitsLt_bf16_f32) main_arg1
  let main_v5 : FVec F S1x1024x16x128 .f32 := Host.absf main_v4
  let main_cst_0 : FVec F S_ .f32 := constant S_ .f32 0x7F800000#32
  let main_v6 : FVec F S1x1024x16x128 .f32 := broadcastInDim S1x1024x16x128 ![] bcast_S_S1x1024x16x128 main_cst_0
  let main_v7 : IVec S1x1024x16x128 1 := cmpf .olt main_v5 main_v6
  let main_c : IVec S_ 1 := constantI S_ 1 1#1
  let main_v8 : IVec S_ 1 := (fun x v => Host.reduce IntOp.andi x v reducesTo_S1x1024x16x128_S_d0_1_2_3 h_S_) main_v3 main_c
  let main_c_1 : IVec S_ 1 := constantI S_ 1 1#1
  let main_v9 : IVec S_ 1 := (fun x v => Host.reduce IntOp.andi x v reducesTo_S1x1024x16x128_S_d0_1_2_3 h_S_) main_v7 main_c_1
  let main_v10 : IVec S_ 1 := andi main_v8 main_v9
  main_v10
-- ==== Pre_finite_qk_ReferenceIdeal.lean ====
abbrev S1x2048x16x128 : Shape := ⟨4, ![1, 2048, 16, 128]⟩
abbrev S_ : Shape := ⟨0, ![]⟩

class Facts : Prop where
  bitsLt_bf16_f32 : FTy.bits .bf16 < FTy.bits .f32
  bcast_S_S1x2048x16x128 : S_.BroadcastsInDim S1x2048x16x128 (![] : Fin 0 → Fin S1x2048x16x128.rank)
  reducesTo_S1x2048x16x128_S_d0_1_2_3 : S1x2048x16x128.ReducesTo [0, 1, 2, 3] S_
  h_S_ : 0 < S_.numel

variable [Facts]

def fn {F : FTy → Type} [FloatOps F] (main_arg0 : FVec F S1x2048x16x128 .bf16) (main_arg1 : FVec F S1x2048x16x128 .bf16) (main_arg2 : FVec F S1x2048x16x128 .bf16) : IVec S_ 1 :=
  let main_v0 : FVec F S1x2048x16x128 .f32 := (extf .f32 · bitsLt_bf16_f32) main_arg0
  let main_v1 : FVec F S1x2048x16x128 .f32 := Host.absf main_v0
  let main_cst : FVec F S_ .f32 := constant S_ .f32 0x7F800000#32
  let main_v2 : FVec F S1x2048x16x128 .f32 := broadcastInDim S1x2048x16x128 ![] bcast_S_S1x2048x16x128 main_cst
  let main_v3 : IVec S1x2048x16x128 1 := cmpf .olt main_v1 main_v2
  let main_v4 : FVec F S1x2048x16x128 .f32 := (extf .f32 · bitsLt_bf16_f32) main_arg1
  let main_v5 : FVec F S1x2048x16x128 .f32 := Host.absf main_v4
  let main_cst_0 : FVec F S_ .f32 := constant S_ .f32 0x7F800000#32
  let main_v6 : FVec F S1x2048x16x128 .f32 := broadcastInDim S1x2048x16x128 ![] bcast_S_S1x2048x16x128 main_cst_0
  let main_v7 : IVec S1x2048x16x128 1 := cmpf .olt main_v5 main_v6
  let main_c : IVec S_ 1 := constantI S_ 1 1#1
  let main_v8 : IVec S_ 1 := (fun x v => Host.reduce IntOp.andi x v reducesTo_S1x2048x16x128_S_d0_1_2_3 h_S_) main_v3 main_c
  let main_c_1 : IVec S_ 1 := constantI S_ 1 1#1
  let main_v9 : IVec S_ 1 := (fun x v => Host.reduce IntOp.andi x v reducesTo_S1x2048x16x128_S_d0_1_2_3 h_S_) main_v7 main_c_1
  let main_v10 : IVec S_ 1 := andi main_v8 main_v9
  main_v10
-- ==== Kernel.lean ====
abbrev S1x1024x16x128 : Shape := ⟨4, ![1, 1024, 16, 128]⟩
abbrev S_ : Shape := ⟨0, ![]⟩
abbrev S1024x16x128 : Shape := ⟨3, ![1024, 16, 128]⟩
abbrev S1024x8x128 : Shape := ⟨3, ![1024, 8, 128]⟩
abbrev S8x1024x128 : Shape := ⟨3, ![8, 1024, 128]⟩
abbrev S8 : Shape := ⟨1, ![8]⟩
abbrev S1 : Shape := ⟨1, ![1]⟩
abbrev S1x1024x128 : Shape := ⟨3, ![1, 1024, 128]⟩
abbrev S1024x128 : Shape := ⟨2, ![1024, 128]⟩
abbrev S1024x1x128 : Shape := ⟨3, ![1024, 1, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 48
  | .vmem => 9
  | .smem => 0
  | _ => 0

abbrev bufTy : (tb : Table) → Fin (tcTables nBuf tb) → BufTy
  | .hbm, ⟨0, _⟩ => ⟨S1x1024x16x128, .bf16⟩
  | .hbm, ⟨1, _⟩ => ⟨S1x1024x16x128, .bf16⟩
  | .hbm, ⟨2, _⟩ => ⟨S1x1024x16x128, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1024x16x128, .bf16⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1024x8x128, .bf16⟩
  | .hbm, ⟨20, _⟩ => ⟨S1024x16x128, .bf16⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1024x8x128, .bf16⟩
  | .hbm, ⟨31, _⟩ => ⟨S8x1024x128, .bf16⟩
  | .hbm, ⟨32, _⟩ => ⟨S1024x16x128, .bf16⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1024x8x128, .bf16⟩
  | .hbm, ⟨43, _⟩ => ⟨S8x1024x128, .bf16⟩
  | .hbm, ⟨44, _⟩ => ⟨S8x1024x128, .f32⟩
  | .hbm, ⟨45, _⟩ => ⟨S8x1024x128, .fp8e4m3⟩
  | .hbm, ⟨46, _⟩ => ⟨S1024x16x128, .f32⟩
  | .hbm, ⟨47, _⟩ => ⟨S1x1024x16x128, .f32⟩
  | .local _ .vmem, ⟨0, _⟩ => ⟨S1024x8x128, .bf16⟩
  | .local _ .vmem, ⟨1, _⟩ => ⟨S8x1024x128, .bf16⟩
  | .local _ .vmem, ⟨2, _⟩ => ⟨S8x1024x128, .bf16⟩
  | .local _ .vmem, ⟨3, _⟩ => ⟨S8x1024x128, .fp8e4m3⟩
  | .local _ .vmem, ⟨4, _⟩ => ⟨S1024x16x128, .f32⟩
  | .local _ .vmem, ⟨5, _⟩ => ⟨S8x1024x128, .bf16⟩
  | .local _ .vmem, ⟨6, _⟩ => ⟨S8x1024x128, .fp8e4m3⟩
  | .local _ .vmem, ⟨7, _⟩ => ⟨S8x1024x128, .bf16⟩
  | .local _ .vmem, ⟨8, _⟩ => ⟨S8x1024x128, .bf16⟩
  | _, _ => ⟨S1x1024x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  (ofTc nBuf bufTy 1 53 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_c_3 : Ref sig .tc := ⟨.hbm, 14, rfl⟩
abbrev main_v8 : Ref sig .tc := ⟨.hbm, 15, rfl⟩
abbrev main_v9 : Ref sig .tc := ⟨.hbm, 16, rfl⟩
abbrev main_c_4 : Ref sig .tc := ⟨.hbm, 17, rfl⟩
abbrev main_c_5 : Ref sig .tc := ⟨.hbm, 18, rfl⟩
abbrev main_v10 : Ref sig .tc := ⟨.hbm, 19, rfl⟩
abbrev main_v11 : Ref sig .tc := ⟨.hbm, 20, rfl⟩
abbrev main_c_6 : Ref sig .tc := ⟨.hbm, 21, rfl⟩
abbrev main_v12 : Ref sig .tc := ⟨.hbm, 22, rfl⟩
abbrev main_c_7 : Ref sig .tc := ⟨.hbm, 23, rfl⟩
abbrev main_v13 : Ref sig .tc := ⟨.hbm, 24, rfl⟩
abbrev main_c_8 : Ref sig .tc := ⟨.hbm, 25, rfl⟩
abbrev main_v14 : Ref sig .tc := ⟨.hbm, 26, rfl⟩
abbrev main_v15 : Ref sig .tc := ⟨.hbm, 27, rfl⟩
abbrev main_c_9 : Ref sig .tc := ⟨.hbm, 28, rfl⟩
abbrev main_c_10 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_11 : Ref sig .tc := ⟨.hbm, 33, rfl⟩
abbrev main_v19 : Ref sig .tc := ⟨.hbm, 34, rfl⟩
abbrev main_c_12 : Ref sig .tc := ⟨.hbm, 35, rfl⟩
abbrev main_v20 : Ref sig .tc := ⟨.hbm, 36, rfl⟩
abbrev main_c_13 : Ref sig .tc := ⟨.hbm, 37, rfl⟩
abbrev main_v21 : Ref sig .tc := ⟨.hbm, 38, rfl⟩
abbrev main_v22 : Ref sig .tc := ⟨.hbm, 39, rfl⟩
abbrev main_c_14 : Ref sig .tc := ⟨.hbm, 40, rfl⟩
abbrev main_c_15 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_6 : BitVec 32 := 1#32
  let v11 : BitVec 32 := Scalar.muli v7 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_3 v2
  let c2_i32_8 : BitVec 32 := 2#32
  let v13 : BitVec 32 := Scalar.muli v8 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_cond1 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_12 : BitVec 32 := 0#32
  let v17 : BitVec 1 := Scalar.cmpi .eq v2 c0_i32_12
  let v18 : BitVec 32 := Scalar.extui v17
  let c0_i32_13 : BitVec 32 := 0#32
  let v19 : BitVec 1 := Scalar.cmpi .ne v18 c0_i32_13
  v19

def k0_dev3 (d0 : Dev nD) : Nat :=
  let c0_i32_23 : BitVec 32 := 0#32
  let c0_i32_21 : BitVec 32 := 0#32
  let c2_i32_22 : BitVec 32 := 2#32
  let v24 : BitVec 32 := Scalar.muli c0_i32_21 c2_i32_22
  let v25 : BitVec 32 := Scalar.addi c0_i32_23 v24
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_24 : BitVec 32 := 1#32
  let v26 : BitVec 32 := Scalar.muli v23 c1_i32_24
  let v27 : BitVec 32 := Scalar.addi v25 v26
  v27.toNat
def k0_dev4 (d0 : Dev nD) : Nat :=
  let c0_i32_35 : BitVec 32 := 0#32
  let c0_i32_33 : BitVec 32 := 0#32
  let c2_i32_34 : BitVec 32 := 2#32
  let v36 : BitVec 32 := Scalar.muli c0_i32_33 c2_i32_34
  let v37 : BitVec 32 := Scalar.addi c0_i32_35 v36
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_36 : BitVec 32 := 1#32
  let v38 : BitVec 32 := Scalar.muli v23 c1_i32_36
  let v39 : BitVec 32 := Scalar.addi v37 v38
  v39.toNat
def k0_dev5 (d0 : Dev nD) : Nat :=
  let c0_i32_47 : BitVec 32 := 0#32
  let c0_i32_45 : BitVec 32 := 0#32
  let c2_i32_46 : BitVec 32 := 2#32
  let v48 : BitVec 32 := Scalar.muli c0_i32_45 c2_i32_46
  let v49 : BitVec 32 := Scalar.addi c0_i32_47 v48
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_48 : BitVec 32 := 1#32
  let v50 : BitVec 32 := Scalar.muli v23 c1_i32_48
  let v51 : BitVec 32 := Scalar.addi v49 v50
  v51.toNat
def k0_dev6 (d0 : Dev nD) : Nat :=
  let c0_i32_59 : BitVec 32 := 0#32
  let c0_i32_57 : BitVec 32 := 0#32
  let c2_i32_58 : BitVec 32 := 2#32
  let v60 : BitVec 32 := Scalar.muli c0_i32_57 c2_i32_58
  let v61 : BitVec 32 := Scalar.addi c0_i32_59 v60
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_60 : BitVec 32 := 1#32
  let v62 : BitVec 32 := Scalar.muli v23 c1_i32_60
  let v63 : BitVec 32 := Scalar.addi v61 v62
  v63.toNat
def k0_dev7 (d0 : Dev nD) : Nat :=
  let c0_i32_71 : BitVec 32 := 0#32
  let c0_i32_69 : BitVec 32 := 0#32
  let c2_i32_70 : BitVec 32 := 2#32
  let v72 : BitVec 32 := Scalar.muli c0_i32_69 c2_i32_70
  let v73 : BitVec 32 := Scalar.addi c0_i32_71 v72
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_72 : BitVec 32 := 1#32
  let v74 : BitVec 32 := Scalar.muli v23 c1_i32_72
  let v75 : BitVec 32 := Scalar.addi v73 v74
  v75.toNat
def k0_dev8 (d0 : Dev nD) : Nat :=
  let c0_i32_83 : BitVec 32 := 0#32
  let c0_i32_81 : BitVec 32 := 0#32
  let c2_i32_82 : BitVec 32 := 2#32
  let v84 : BitVec 32 := Scalar.muli c0_i32_81 c2_i32_82
  let v85 : BitVec 32 := Scalar.addi c0_i32_83 v84
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_84 : BitVec 32 := 1#32
  let v86 : BitVec 32 := Scalar.muli v23 c1_i32_84
  let v87 : BitVec 32 := Scalar.addi v85 v86
  v87.toNat
def k0_dev9 (d0 : Dev nD) : Nat :=
  let c0_i32_94 : BitVec 32 := 0#32
  let c0_i32_92 : BitVec 32 := 0#32
  let c2_i32_93 : BitVec 32 := 2#32
  let v96 : BitVec 32 := Scalar.muli c0_i32_92 c2_i32_93
  let v97 : BitVec 32 := Scalar.addi c0_i32_94 v96
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_95 : BitVec 32 := 1#32
  let v98 : BitVec 32 := Scalar.muli v23 c1_i32_95
  let v99 : BitVec 32 := Scalar.addi v97 v98
  v99.toNat
def k0_dev10 (d0 : Dev nD) : Nat :=
  let c0_i32_106 : BitVec 32 := 0#32
  let c0_i32_104 : BitVec 32 := 0#32
  let c2_i32_105 : BitVec 32 := 2#32
  let v108 : BitVec 32 := Scalar.muli c0_i32_104 c2_i32_105
  let v109 : BitVec 32 := Scalar.addi c0_i32_106 v108
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_107 : BitVec 32 := 1#32
  let v110 : BitVec 32 := Scalar.muli v23 c1_i32_107
  let v111 : BitVec 32 := Scalar.addi v109 v110
  v111.toNat
def k0_dev11 (d0 : Dev nD) : Nat :=
  let c0_i32_117 : BitVec 32 := 0#32
  let c0_i32_115 : BitVec 32 := 0#32
  let c2_i32_116 : BitVec 32 := 2#32
  let v120 : BitVec 32 := Scalar.muli c0_i32_115 c2_i32_116
  let v121 : BitVec 32 := Scalar.addi c0_i32_117 v120
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_118 : BitVec 32 := 1#32
  let v122 : BitVec 32 := Scalar.muli v23 c1_i32_118
  let v123 : BitVec 32 := Scalar.addi v121 v122
  v123.toNat
def k0_dev12 (d0 : Dev nD) : Nat :=
  let c0_i32_129 : BitVec 32 := 0#32
  let c0_i32_127 : BitVec 32 := 0#32
  let c2_i32_128 : BitVec 32 := 2#32
  let v132 : BitVec 32 := Scalar.muli c0_i32_127 c2_i32_128
  let v133 : BitVec 32 := Scalar.addi c0_i32_129 v132
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_130 : BitVec 32 := 1#32
  let v134 : BitVec 32 := Scalar.muli v23 c1_i32_130
  let v135 : BitVec 32 := Scalar.addi v133 v134
  v135.toNat
def k0_dev13 (d0 : Dev nD) : Nat :=
  let c0_i32_140 : BitVec 32 := 0#32
  let c0_i32_138 : BitVec 32 := 0#32
  let c2_i32_139 : BitVec 32 := 2#32
  let v144 : BitVec 32 := Scalar.muli c0_i32_138 c2_i32_139
  let v145 : BitVec 32 := Scalar.addi c0_i32_140 v144
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_141 : BitVec 32 := 1#32
  let v146 : BitVec 32 := Scalar.muli v23 c1_i32_141
  let v147 : BitVec 32 := Scalar.addi v145 v146
  v147.toNat
def k0_dev14 (d0 : Dev nD) : Nat :=
  let c0_i32_152 : BitVec 32 := 0#32
  let c0_i32_150 : BitVec 32 := 0#32
  let c2_i32_151 : BitVec 32 := 2#32
  let v156 : BitVec 32 := Scalar.muli c0_i32_150 c2_i32_151
  let v157 : BitVec 32 := Scalar.addi c0_i32_152 v156
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_153 : BitVec 32 := 1#32
  let v158 : BitVec 32 := Scalar.muli v23 c1_i32_153
  let v159 : BitVec 32 := Scalar.addi v157 v158
  v159.toNat
def k0_dev15 (d0 : Dev nD) : Nat :=
  let c0_i32_163 : BitVec 32 := 0#32
  let c0_i32_161 : BitVec 32 := 0#32
  let c2_i32_162 : BitVec 32 := 2#32
  let v168 : BitVec 32 := Scalar.muli c0_i32_161 c2_i32_162
  let v169 : BitVec 32 := Scalar.addi c0_i32_163 v168
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_164 : BitVec 32 := 1#32
  let v170 : BitVec 32 := Scalar.muli v23 c1_i32_164
  let v171 : BitVec 32 := Scalar.addi v169 v170
  v171.toNat
def k0_dev16 (d0 : Dev nD) : Nat :=
  let c0_i32_175 : BitVec 32 := 0#32
  let c0_i32_173 : BitVec 32 := 0#32
  let c2_i32_174 : BitVec 32 := 2#32
  let v180 : BitVec 32 := Scalar.muli c0_i32_173 c2_i32_174
  let v181 : BitVec 32 := Scalar.addi c0_i32_175 v180
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_176 : BitVec 32 := 1#32
  let v182 : BitVec 32 := Scalar.muli v23 c1_i32_176
  let v183 : BitVec 32 := Scalar.addi v181 v182
  v183.toNat
def k0_dev17 (d0 : Dev nD) : Nat :=
  let c0_i32_186 : BitVec 32 := 0#32
  let c0_i32_184 : BitVec 32 := 0#32
  let c2_i32_185 : BitVec 32 := 2#32
  let v192 : BitVec 32 := Scalar.muli c0_i32_184 c2_i32_185
  let v193 : BitVec 32 := Scalar.addi c0_i32_186 v192
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_187 : BitVec 32 := 1#32
  let v194 : BitVec 32 := Scalar.muli v23 c1_i32_187
  let v195 : BitVec 32 := Scalar.addi v193 v194
  v195.toNat
def k0_dev18 (d0 : Dev nD) : Nat :=
  let c0_i32_198 : BitVec 32 := 0#32
  let c0_i32_196 : BitVec 32 := 0#32
  let c2_i32_197 : BitVec 32 := 2#32
  let v204 : BitVec 32 := Scalar.muli c0_i32_196 c2_i32_197
  let v205 : BitVec 32 := Scalar.addi c0_i32_198 v204
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_199 : BitVec 32 := 1#32
  let v206 : BitVec 32 := Scalar.muli v23 c1_i32_199
  let v207 : BitVec 32 := Scalar.addi v205 v206
  v207.toNat
def k0_dev19 (d0 : Dev nD) : Nat :=
  let c0_i32_280 : BitVec 32 := 0#32
  let c1_i32_278 : BitVec 32 := 1#32
  let c2_i32_279 : BitVec 32 := 2#32
  let v284 : BitVec 32 := Scalar.muli c1_i32_278 c2_i32_279
  let v285 : BitVec 32 := Scalar.addi c0_i32_280 v284
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_281 : BitVec 32 := 1#32
  let v286 : BitVec 32 := Scalar.muli v5 c1_i32_281
  let v287 : BitVec 32 := Scalar.addi v285 v286
  v287.toNat
def k0_dev20 (d0 : Dev nD) : Nat :=
  let c0_i32_363 : BitVec 32 := 0#32
  let c1_i32_361 : BitVec 32 := 1#32
  let c2_i32_362 : BitVec 32 := 2#32
  let v364 : BitVec 32 := Scalar.muli c1_i32_361 c2_i32_362
  let v365 : BitVec 32 := Scalar.addi c0_i32_363 v364
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_364 : BitVec 32 := 1#32
  let v366 : BitVec 32 := Scalar.muli v5 c1_i32_364
  let v367 : BitVec 32 := Scalar.addi v365 v366
  v367.toNat
def k0_dev21 (d0 : Dev nD) : Nat :=
  let c0_i32_446 : BitVec 32 := 0#32
  let c1_i32_444 : BitVec 32 := 1#32
  let c2_i32_445 : BitVec 32 := 2#32
  let v444 : BitVec 32 := Scalar.muli c1_i32_444 c2_i32_445
  let v445 : BitVec 32 := Scalar.addi c0_i32_446 v444
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_447 : BitVec 32 := 1#32
  let v446 : BitVec 32 := Scalar.muli v5 c1_i32_447
  let v447 : BitVec 32 := Scalar.addi v445 v446
  v447.toNat
def k0_dev22 (d0 : Dev nD) : Nat :=
  let c0_i32_529 : BitVec 32 := 0#32
  let c1_i32_527 : BitVec 32 := 1#32
  let c2_i32_528 : BitVec 32 := 2#32
  let v524 : BitVec 32 := Scalar.muli c1_i32_527 c2_i32_528
  let v525 : BitVec 32 := Scalar.addi c0_i32_529 v524
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_530 : BitVec 32 := 1#32
  let v526 : BitVec 32 := Scalar.muli v5 c1_i32_530
  let v527 : BitVec 32 := Scalar.addi v525 v526
  v527.toNat
def k0_dev23 (d0 : Dev nD) : Nat :=
  let c0_i32_612 : BitVec 32 := 0#32
  let c1_i32_610 : BitVec 32 := 1#32
  let c2_i32_611 : BitVec 32 := 2#32
  let v604 : BitVec 32 := Scalar.muli c1_i32_610 c2_i32_611
  let v605 : BitVec 32 := Scalar.addi c0_i32_612 v604
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_613 : BitVec 32 := 1#32
  let v606 : BitVec 32 := Scalar.muli v5 c1_i32_613
  let v607 : BitVec 32 := Scalar.addi v605 v606
  v607.toNat
def k0_dev24 (d0 : Dev nD) : Nat :=
  let c0_i32_695 : BitVec 32 := 0#32
  let c1_i32_693 : BitVec 32 := 1#32
  let c2_i32_694 : BitVec 32 := 2#32
  let v684 : BitVec 32 := Scalar.muli c1_i32_693 c2_i32_694
  let v685 : BitVec 32 := Scalar.addi c0_i32_695 v684
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_696 : BitVec 32 := 1#32
  let v686 : BitVec 32 := Scalar.muli v5 c1_i32_696
  let v687 : BitVec 32 := Scalar.addi v685 v686
  v687.toNat
def k0_dev25 (d0 : Dev nD) : Nat :=
  let c0_i32_778 : BitVec 32 := 0#32
  let c1_i32_776 : BitVec 32 := 1#32
  let c2_i32_777 : BitVec 32 := 2#32
  let v764 : BitVec 32 := Scalar.muli c1_i32_776 c2_i32_777
  let v765 : BitVec 32 := Scalar.addi c0_i32_778 v764
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_779 : BitVec 32 := 1#32
  let v766 : BitVec 32 := Scalar.muli v5 c1_i32_779
  let v767 : BitVec 32 := Scalar.addi v765 v766
  v767.toNat
def k0_dev26 (d0 : Dev nD) : Nat :=
  let c0_i32_861 : BitVec 32 := 0#32
  let c1_i32_859 : BitVec 32 := 1#32
  let c2_i32_860 : BitVec 32 := 2#32
  let v844 : BitVec 32 := Scalar.muli c1_i32_859 c2_i32_860
  let v845 : BitVec 32 := Scalar.addi c0_i32_861 v844
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_862 : BitVec 32 := 1#32
  let v846 : BitVec 32 := Scalar.muli v5 c1_i32_862
  let v847 : BitVec 32 := Scalar.addi v845 v846
  v847.toNat
def k0_cond2 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_14 : BitVec 32 := 1#32
  let v20 : BitVec 1 := Scalar.cmpi .eq v2 c1_i32_14
  let v21 : BitVec 32 := Scalar.extui v20
  let c0_i32_15 : BitVec 32 := 0#32
  let v22 : BitVec 1 := Scalar.cmpi .ne v21 c0_i32_15
  v22

def k0_dev27 (d0 : Dev nD) : Nat :=
  let c0_i32_23 : BitVec 32 := 0#32
  let c1_i32_21 : BitVec 32 := 1#32
  let c2_i32_22 : BitVec 32 := 2#32
  let v24 : BitVec 32 := Scalar.muli c1_i32_21 c2_i32_22
  let v25 : BitVec 32 := Scalar.addi c0_i32_23 v24
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_24 : BitVec 32 := 1#32
  let v26 : BitVec 32 := Scalar.muli v23 c1_i32_24
  let v27 : BitVec 32 := Scalar.addi v25 v26
  v27.toNat
def k0_dev28 (d0 : Dev nD) : Nat :=
  let c0_i32_35 : BitVec 32 := 0#32
  let c1_i32_33 : BitVec 32 := 1#32
  let c2_i32_34 : BitVec 32 := 2#32
  let v36 : BitVec 32 := Scalar.muli c1_i32_33 c2_i32_34
  let v37 : BitVec 32 := Scalar.addi c0_i32_35 v36
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_36 : BitVec 32 := 1#32
  let v38 : BitVec 32 := Scalar.muli v23 c1_i32_36
  let v39 : BitVec 32 := Scalar.addi v37 v38
  v39.toNat
def k0_dev29 (d0 : Dev nD) : Nat :=
  let c0_i32_47 : BitVec 32 := 0#32
  let c1_i32_45 : BitVec 32 := 1#32
  let c2_i32_46 : BitVec 32 := 2#32
  let v48 : BitVec 32 := Scalar.muli c1_i32_45 c2_i32_46
  let v49 : BitVec 32 := Scalar.addi c0_i32_47 v48
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_48 : BitVec 32 := 1#32
  let v50 : BitVec 32 := Scalar.muli v23 c1_i32_48
  let v51 : BitVec 32 := Scalar.addi v49 v50
  v51.toNat
def k0_dev30 (d0 : Dev nD) : Nat :=
  let c0_i32_59 : BitVec 32 := 0#32
  let c1_i32_57 : BitVec 32 := 1#32
  let c2_i32_58 : BitVec 32 := 2#32
  let v60 : BitVec 32 := Scalar.muli c1_i32_57 c2_i32_58
  let v61 : BitVec 32 := Scalar.addi c0_i32_59 v60
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_60 : BitVec 32 := 1#32
  let v62 : BitVec 32 := Scalar.muli v23 c1_i32_60
  let v63 : BitVec 32 := Scalar.addi v61 v62
  v63.toNat
def k0_dev31 (d0 : Dev nD) : Nat :=
  let c0_i32_71 : BitVec 32 := 0#32
  let c1_i32_69 : BitVec 32 := 1#32
  let c2_i32_70 : BitVec 32 := 2#32
  let v72 : BitVec 32 := Scalar.muli c1_i32_69 c2_i32_70
  let v73 : BitVec 32 := Scalar.addi c0_i32_71 v72
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_72 : BitVec 32 := 1#32
  let v74 : BitVec 32 := Scalar.muli v23 c1_i32_72
  let v75 : BitVec 32 := Scalar.addi v73 v74
  v75.toNat
def k0_dev32 (d0 : Dev nD) : Nat :=
  let c0_i32_83 : BitVec 32 := 0#32
  let c1_i32_81 : BitVec 32 := 1#32
  let c2_i32_82 : BitVec 32 := 2#32
  let v84 : BitVec 32 := Scalar.muli c1_i32_81 c2_i32_82
  let v85 : BitVec 32 := Scalar.addi c0_i32_83 v84
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_84 : BitVec 32 := 1#32
  let v86 : BitVec 32 := Scalar.muli v23 c1_i32_84
  let v87 : BitVec 32 := Scalar.addi v85 v86
  v87.toNat
def k0_dev33 (d0 : Dev nD) : Nat :=
  let c0_i32_94 : BitVec 32 := 0#32
  let c1_i32_92 : BitVec 32 := 1#32
  let c2_i32_93 : BitVec 32 := 2#32
  let v96 : BitVec 32 := Scalar.muli c1_i32_92 c2_i32_93
  let v97 : BitVec 32 := Scalar.addi c0_i32_94 v96
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_95 : BitVec 32 := 1#32
  let v98 : BitVec 32 := Scalar.muli v23 c1_i32_95
  let v99 : BitVec 32 := Scalar.addi v97 v98
  v99.toNat
def k0_dev34 (d0 : Dev nD) : Nat :=
  let c0_i32_106 : BitVec 32 := 0#32
  let c1_i32_104 : BitVec 32 := 1#32
  let c2_i32_105 : BitVec 32 := 2#32
  let v108 : BitVec 32 := Scalar.muli c1_i32_104 c2_i32_105
  let v109 : BitVec 32 := Scalar.addi c0_i32_106 v108
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_107 : BitVec 32 := 1#32
  let v110 : BitVec 32 := Scalar.muli v23 c1_i32_107
  let v111 : BitVec 32 := Scalar.addi v109 v110
  v111.toNat
def k0_dev35 (d0 : Dev nD) : Nat :=
  let c0_i32_117 : BitVec 32 := 0#32
  let c1_i32_115 : BitVec 32 := 1#32
  let c2_i32_116 : BitVec 32 := 2#32
  let v120 : BitVec 32 := Scalar.muli c1_i32_115 c2_i32_116
  let v121 : BitVec 32 := Scalar.addi c0_i32_117 v120
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_118 : BitVec 32 := 1#32
  let v122 : BitVec 32 := Scalar.muli v23 c1_i32_118
  let v123 : BitVec 32 := Scalar.addi v121 v122
  v123.toNat
def k0_dev36 (d0 : Dev nD) : Nat :=
  let c0_i32_129 : BitVec 32 := 0#32
  let c1_i32_127 : BitVec 32 := 1#32
  let c2_i32_128 : BitVec 32 := 2#32
  let v132 : BitVec 32 := Scalar.muli c1_i32_127 c2_i32_128
  let v133 : BitVec 32 := Scalar.addi c0_i32_129 v132
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_130 : BitVec 32 := 1#32
  let v134 : BitVec 32 := Scalar.muli v23 c1_i32_130
  let v135 : BitVec 32 := Scalar.addi v133 v134
  v135.toNat
def k0_dev37 (d0 : Dev nD) : Nat :=
  let c0_i32_140 : BitVec 32 := 0#32
  let c1_i32_138 : BitVec 32 := 1#32
  let c2_i32_139 : BitVec 32 := 2#32
  let v144 : BitVec 32 := Scalar.muli c1_i32_138 c2_i32_139
  let v145 : BitVec 32 := Scalar.addi c0_i32_140 v144
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_141 : BitVec 32 := 1#32
  let v146 : BitVec 32 := Scalar.muli v23 c1_i32_141
  let v147 : BitVec 32 := Scalar.addi v145 v146
  v147.toNat
def k0_dev38 (d0 : Dev nD) : Nat :=
  let c0_i32_152 : BitVec 32 := 0#32
  let c1_i32_150 : BitVec 32 := 1#32
  let c2_i32_151 : BitVec 32 := 2#32
  let v156 : BitVec 32 := Scalar.muli c1_i32_150 c2_i32_151
  let v157 : BitVec 32 := Scalar.addi c0_i32_152 v156
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_153 : BitVec 32 := 1#32
  let v158 : BitVec 32 := Scalar.muli v23 c1_i32_153
  let v159 : BitVec 32 := Scalar.addi v157 v158
  v159.toNat
def k0_dev39 (d0 : Dev nD) : Nat :=
  let c0_i32_163 : BitVec 32 := 0#32
  let c1_i32_161 : BitVec 32 := 1#32
  let c2_i32_162 : BitVec 32 := 2#32
  let v168 : BitVec 32 := Scalar.muli c1_i32_161 c2_i32_162
  let v169 : BitVec 32 := Scalar.addi c0_i32_163 v168
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_164 : BitVec 32 := 1#32
  let v170 : BitVec 32 := Scalar.muli v23 c1_i32_164
  let v171 : BitVec 32 := Scalar.addi v169 v170
  v171.toNat
def k0_dev40 (d0 : Dev nD) : Nat :=
  let c0_i32_175 : BitVec 32 := 0#32
  let c1_i32_173 : BitVec 32 := 1#32
  let c2_i32_174 : BitVec 32 := 2#32
  let v180 : BitVec 32 := Scalar.muli c1_i32_173 c2_i32_174
  let v181 : BitVec 32 := Scalar.addi c0_i32_175 v180
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_176 : BitVec 32 := 1#32
  let v182 : BitVec 32 := Scalar.muli v23 c1_i32_176
  let v183 : BitVec 32 := Scalar.addi v181 v182
  v183.toNat
def k0_dev41 (d0 : Dev nD) : Nat :=
  let c0_i32_186 : BitVec 32 := 0#32
  let c1_i32_184 : BitVec 32 := 1#32
  let c2_i32_185 : BitVec 32 := 2#32
  let v192 : BitVec 32 := Scalar.muli c1_i32_184 c2_i32_185
  let v193 : BitVec 32 := Scalar.addi c0_i32_186 v192
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_187 : BitVec 32 := 1#32
  let v194 : BitVec 32 := Scalar.muli v23 c1_i32_187
  let v195 : BitVec 32 := Scalar.addi v193 v194
  v195.toNat
def k0_dev42 (d0 : Dev nD) : Nat :=
  let c0_i32_198 : BitVec 32 := 0#32
  let c1_i32_196 : BitVec 32 := 1#32
  let c2_i32_197 : BitVec 32 := 2#32
  let v204 : BitVec 32 := Scalar.muli c1_i32_196 c2_i32_197
  let v205 : BitVec 32 := Scalar.addi c0_i32_198 v204
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_16 v5
  let c1_i32_199 : BitVec 32 := 1#32
  let v206 : BitVec 32 := Scalar.muli v23 c1_i32_199
  let v207 : BitVec 32 := Scalar.addi v205 v206
  v207.toNat
def k0_dev43 (d0 : Dev nD) : Nat :=
  let c0_i32_279 : BitVec 32 := 0#32
  let c0_i32_277 : BitVec 32 := 0#32
  let c2_i32_278 : BitVec 32 := 2#32
  let v284 : BitVec 32 := Scalar.muli c0_i32_277 c2_i32_278
  let v285 : BitVec 32 := Scalar.addi c0_i32_279 v284
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_280 : BitVec 32 := 1#32
  let v286 : BitVec 32 := Scalar.muli v5 c1_i32_280
  let v287 : BitVec 32 := Scalar.addi v285 v286
  v287.toNat
def k0_dev44 (d0 : Dev nD) : Nat :=
  let c0_i32_361 : BitVec 32 := 0#32
  let c0_i32_359 : BitVec 32 := 0#32
  let c2_i32_360 : BitVec 32 := 2#32
  let v364 : BitVec 32 := Scalar.muli c0_i32_359 c2_i32_360
  let v365 : BitVec 32 := Scalar.addi c0_i32_361 v364
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_362 : BitVec 32 := 1#32
  let v366 : BitVec 32 := Scalar.muli v5 c1_i32_362
  let v367 : BitVec 32 := Scalar.addi v365 v366
  v367.toNat
def k0_dev45 (d0 : Dev nD) : Nat :=
  let c0_i32_443 : BitVec 32 := 0#32
  let c0_i32_441 : BitVec 32 := 0#32
  let c2_i32_442 : BitVec 32 := 2#32
  let v444 : BitVec 32 := Scalar.muli c0_i32_441 c2_i32_442
  let v445 : BitVec 32 := Scalar.addi c0_i32_443 v444
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_444 : BitVec 32 := 1#32
  let v446 : BitVec 32 := Scalar.muli v5 c1_i32_444
  let v447 : BitVec 32 := Scalar.addi v445 v446
  v447.toNat
def k0_dev46 (d0 : Dev nD) : Nat :=
  let c0_i32_525 : BitVec 32 := 0#32
  let c0_i32_523 : BitVec 32 := 0#32
  let c2_i32_524 : BitVec 32 := 2#32
  let v524 : BitVec 32 := Scalar.muli c0_i32_523 c2_i32_524
  let v525 : BitVec 32 := Scalar.addi c0_i32_525 v524
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_526 : BitVec 32 := 1#32
  let v526 : BitVec 32 := Scalar.muli v5 c1_i32_526
  let v527 : BitVec 32 := Scalar.addi v525 v526
  v527.toNat
def k0_dev47 (d0 : Dev nD) : Nat :=
  let c0_i32_607 : BitVec 32 := 0#32
  let c0_i32_605 : BitVec 32 := 0#32
  let c2_i32_606 : BitVec 32 := 2#32
  let v604 : BitVec 32 := Scalar.muli c0_i32_605 c2_i32_606
  let v605 : BitVec 32 := Scalar.addi c0_i32_607 v604
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_608 : BitVec 32 := 1#32
  let v606 : BitVec 32 := Scalar.muli v5 c1_i32_608
  let v607 : BitVec 32 := Scalar.addi v605 v606
  v607.toNat
def k0_dev48 (d0 : Dev nD) : Nat :=
  let c0_i32_689 : BitVec 32 := 0#32
  let c0_i32_687 : BitVec 32 := 0#32
  let c2_i32_688 : BitVec 32 := 2#32
  let v684 : BitVec 32 := Scalar.muli c0_i32_687 c2_i32_688
  let v685 : BitVec 32 := Scalar.addi c0_i32_689 v684
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_690 : BitVec 32 := 1#32
  let v686 : BitVec 32 := Scalar.muli v5 c1_i32_690
  let v687 : BitVec 32 := Scalar.addi v685 v686
  v687.toNat
def k0_dev49 (d0 : Dev nD) : Nat :=
  let c0_i32_771 : BitVec 32 := 0#32
  let c0_i32_769 : BitVec 32 := 0#32
  let c2_i32_770 : BitVec 32 := 2#32
  let v764 : BitVec 32 := Scalar.muli c0_i32_769 c2_i32_770
  let v765 : BitVec 32 := Scalar.addi c0_i32_771 v764
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_772 : BitVec 32 := 1#32
  let v766 : BitVec 32 := Scalar.muli v5 c1_i32_772
  let v767 : BitVec 32 := Scalar.addi v765 v766
  v767.toNat
def k0_dev50 (d0 : Dev nD) : Nat :=
  let c0_i32_853 : BitVec 32 := 0#32
  let c0_i32_851 : BitVec 32 := 0#32
  let c2_i32_852 : BitVec 32 := 2#32
  let v844 : BitVec 32 := Scalar.muli c0_i32_851 c2_i32_852
  let v845 : BitVec 32 := Scalar.addi c0_i32_853 v844
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_854 : BitVec 32 := 1#32
  let v846 : BitVec 32 := Scalar.muli v5 c1_i32_854
  let v847 : BitVec 32 := Scalar.addi v845 v846
  v847.toNat
abbrev stage0_0 : Fin 1 → Memref sig .tc .vmem S1024x8x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "s" => some (((Real.sqrt 128)⁻¹ : ℝ) : EReal)
  | _ => none
-- ==== ReferenceIdeal.lean ====
abbrev S1x2048x16x128 : Shape := ⟨4, ![1, 2048, 16, 128]⟩
abbrev S_ : Shape := ⟨0, ![]⟩
abbrev S1x16x2048x2048 : Shape := ⟨4, ![1, 16, 2048, 2048]⟩
abbrev S1x16x2048 : Shape := ⟨3, ![1, 16, 2048]⟩
abbrev S1x16x2048x1 : Shape := ⟨4, ![1, 16, 2048, 1]⟩
abbrev S1x16x128x2048 : Shape := ⟨4, ![1, 16, 128, 2048]⟩

abbrev nBuf : Space → Nat
  | .hbm => 24
  | .vmem => 0
  | .smem => 0
  | _ => 0

abbrev bufTy : (tb : Table) → Fin (tcTables nBuf tb) → BufTy
  | .hbm, ⟨0, _⟩ => ⟨S1x2048x16x128, .bf16⟩
  | .hbm, ⟨1, _⟩ => ⟨S1x2048x16x128, .bf16⟩
  | .hbm, ⟨2, _⟩ => ⟨S1x2048x16x128, .bf16⟩
  | .hbm, ⟨3, _⟩ => ⟨S_, .f32⟩
  | .hbm, ⟨4, _⟩ => ⟨S_, .f32⟩
  | .hbm, ⟨5, _⟩ => ⟨S1x2048x16x128, .f32⟩
  | .hbm, ⟨6, _⟩ => ⟨S1x2048x16x128, .f32⟩
  | .hbm, ⟨7, _⟩ => ⟨S1x16x2048x2048, .f32⟩
  | .hbm, ⟨8, _⟩ => ⟨S1x16x2048x2048, .f32⟩
  | .hbm, ⟨9, _⟩ => ⟨S1x16x2048x2048, .f32⟩
  | .hbm, ⟨10, _⟩ => ⟨S_, .f32⟩
  | .hbm, ⟨11, _⟩ => ⟨S1x16x2048, .f32⟩
  | .hbm, ⟨12, _⟩ => ⟨S1x16x2048x1, .f32⟩
  | .hbm, ⟨13, _⟩ => ⟨S1x16x2048x2048, .f32⟩
  | .hbm, ⟨14, _⟩ => ⟨S1x16x2048x2048, .f32⟩
  | .hbm, ⟨15, _⟩ => ⟨S1x16x2048x2048, .f32⟩
  | .hbm, ⟨16, _⟩ => ⟨S_, .f32⟩
  | .hbm, ⟨17, _⟩ => ⟨S1x16x2048, .f32⟩
  | .hbm, ⟨18, _⟩ => ⟨S1x16x2048x1, .f32⟩
  | .hbm, ⟨19, _⟩ => ⟨S1x16x2048x2048, .f32⟩
  | .hbm, ⟨20, _⟩ => ⟨S1x16x2048x2048, .f32⟩
  | .hbm, ⟨21, _⟩ => ⟨S1x2048x16x128, .f32⟩
  | .hbm, ⟨22, _⟩ => ⟨S1x16x128x2048, .f32⟩
  | .hbm, ⟨23, _⟩ => ⟨S1x2048x16x128, .f32⟩
  | _, _ => ⟨S1x2048x16x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Pieces.lean ====
/- The body's program, cut into the pieces one head's work is made of: each is written once for a symbolic head `i`, and
   the two printed columns are shown to be those pieces, run for the heads in order. -/
module

public import proofs.«01_k».proof.Proof.Gen.KernelIdeal.Skeleton

@[expose] public section

set_option maxRecDepth 16384

noncomputable section

namespace Cert.KernelIdeal.Attn

open Idealize.ShloMosaic Idealize.ShloMosaic.TcCoe Idealize.SL.Sem
open Cert.KernelIdeal.Gen

variable {F : FTy → Type} [FloatOps F] [Named F]

/-! ## The buffers and semaphores -/

abbrev qM : Memref sig .tc .vmem S1024x8x128 .bf16 := Memref.whole cc0_stg0_0
abbrev kM : Memref sig .tc .vmem S8x1024x128 .bf16 := Memref.whole cc0_stg1_0
abbrev vM : Memref sig .tc .vmem S8x1024x128 .bf16 := Memref.whole cc0_stg2_0
abbrev wM : Memref sig .tc .vmem S8x1024x128 .fp8e4m3 := Memref.whole cc0_stg3_0
abbrev oM : Memref sig .tc .vmem S1024x16x128 .f32 := Memref.whole cc0_stg4_0
abbrev koM : Memref sig .tc .vmem S8x1024x128 .bf16 := Memref.whole cc0_scratch0
abbrev voM : Memref sig .tc .vmem S8x1024x128 .fp8e4m3 := Memref.whole cc0_scratch1
abbrev obM : Memref sig .tc .vmem S8x1024x128 .bf16 := Memref.whole cc0_scratch2
abbrev oiM : Memref sig .tc .vmem S8x1024x128 .bf16 := Memref.whole cc0_scratch3

/-! ## One head's rectangles -/

theorem inbH : ∀ (i : Fin 8) (a : Fin 3), (![i.val, 0, 0] : Fin 3 → Nat) a + S1x1024x128.size a ≤ S8x1024x128.size a := by decide
theorem inbQ : ∀ (i : Fin 8) (a : Fin 3), (![0, i.val, 0] : Fin 3 → Nat) a + S1024x1x128.size a ≤ S1024x8x128.size a := by decide
theorem inbO : ∀ (j : Fin 16) (a : Fin 3), (![0, j.val, 0] : Fin 3 → Nat) a + S1024x1x128.size a ≤ S1024x16x128.size a := by decide
theorem inbS : ∀ (i : Fin 8) (a : Fin 1), (![i.val] : Fin 1 → Nat) a + S1.size a ≤ S8.size a := by decide

/-- Head `i`'s slice of a buffer of eight heads. -/
abbrev hR (i : Fin 8) : Rect S8x1024x128 := Rect.unit (s := S8x1024x128) ![i.val, 0, 0] S1x1024x128.size (inbH i)
/-- Head `i`'s slice of the queries. -/
abbrev qR (i : Fin 8) : Rect S1024x8x128 := Rect.unit (s := S1024x8x128) ![0, i.val, 0] S1024x1x128.size (inbQ i)
/-- Head `j`'s slice of the result. -/
abbrev oR (j : Fin 16) : Rect S1024x16x128 := Rect.unit (s := S1024x16x128) ![0, j.val, 0] S1024x1x128.size (inbO j)

/-- Head `i`'s slice of a buffer of eight heads, as the transfers name it. -/
abbrev hM {e : EltTy} (M : Memref sig .tc .vmem S8x1024x128 e) (i : Fin 8) : Memref sig .tc .vmem S1024x128 e :=
  (M.slice (hR i) (fun _ => rfl)).squeeze S1024x128 squeezes_S1x1024x128_S1024x128
/-- Head `i`'s semaphore of an array of eight. -/
abbrev hS (A : DmaSems sig S8) (i : Fin 8) : DmaSem sig :=
  ((A.slice (Rect.unit (s := S8) ![i.val] S1.size (inbS i))).squeeze S_ squeezes_S1_S_).sem

theorem wordsB : ∀ i : Fin 8, (hR i).WholeWords (EltTy.packing .bf16)
  | 0 => wordsbf16_S8x1024x128_S1x1024x128_0_0_0 | 1 => wordsbf16_S8x1024x128_S1x1024x128_1_0_0
  | 2 => wordsbf16_S8x1024x128_S1x1024x128_2_0_0 | 3 => wordsbf16_S8x1024x128_S1x1024x128_3_0_0
  | 4 => wordsbf16_S8x1024x128_S1x1024x128_4_0_0 | 5 => wordsbf16_S8x1024x128_S1x1024x128_5_0_0
  | 6 => wordsbf16_S8x1024x128_S1x1024x128_6_0_0 | 7 => wordsbf16_S8x1024x128_S1x1024x128_7_0_0
theorem wordsE : ∀ i : Fin 8, (hR i).WholeWords (EltTy.packing .fp8e4m3)
  | 0 => wordsfp8e4m3_S8x1024x128_S1x1024x128_0_0_0 | 1 => wordsfp8e4m3_S8x1024x128_S1x1024x128_1_0_0
  | 2 => wordsfp8e4m3_S8x1024x128_S1x1024x128_2_0_0 | 3 => wordsfp8e4m3_S8x1024x128_S1x1024x128_3_0_0
  | 4 => wordsfp8e4m3_S8x1024x128_S1x1024x128_4_0_0 | 5 => wordsfp8e4m3_S8x1024x128_S1x1024x128_5_0_0
  | 6 => wordsfp8e4m3_S8x1024x128_S1x1024x128_6_0_0 | 7 => wordsfp8e4m3_S8x1024x128_S1x1024x128_7_0_0
theorem packedB : ∀ i : Fin 8, (hR i).PackedRows (EltTy.packing .bf16)
  | 0 => packedbf16_S8x1024x128_S1x1024x128_0_0_0 | 1 => packedbf16_S8x1024x128_S1x1024x128_1_0_0
  | 2 => packedbf16_S8x1024x128_S1x1024x128_2_0_0 | 3 => packedbf16_S8x1024x128_S1x1024x128_3_0_0
  | 4 => packedbf16_S8x1024x128_S1x1024x128_4_0_0 | 5 => packedbf16_S8x1024x128_S1x1024x128_5_0_0
  | 6 => packedbf16_S8x1024x128_S1x1024x128_6_0_0 | 7 => packedbf16_S8x1024x128_S1x1024x128_7_0_0

/-! ## One head's attention, as the body computes it -/

/-- The queries of a head, scaled. -/
def qs (q : Vec F S1024x1x128 .bf16) : FVec F S1024x128 .bf16 := k0_pay1 q
/-- The exponentials of a head's scores against one half of the keys. -/
def ex (q : FVec F S1024x128 .bf16) (k : Vec F S1x1024x128 .bf16) : FVec F S1024x1024 .f32 := k0_pay6 q k
/-- Their row sums. -/
def rs (q : FVec F S1024x128 .bf16) (k : Vec F S1x1024x128 .bf16) : FVec F S1024x1 .f32 := k0_pay7 q k
/-- The head's result from the queries, the device's own keys and values and its peer's. -/
def att (q : Vec F S1024x1x128 .bf16) (k v ko : Vec F S1x1024x128 .bf16) (vo : Vec F S1x1024x128 .fp8e4m3) : FVec F S1024x128 .f32 :=
  k0_pay8 (rs (qs q) k) (k0_pay5 (ex (qs q) k) v) (ex (qs q) ko) (rs (qs q) ko) vo
/-- The same as the result's slice. -/
def attO (q : Vec F S1024x1x128 .bf16) (k v ko : Vec F S1x1024x128 .bf16) (vo : Vec F S1x1024x128 .fp8e4m3) : FVec F S1024x1x128 .f32 :=
  shapeCast S1024x1x128 (att q k v ko vo) shapeCasts_S1024x128_S1024x1x128
/-- The same, rounded, as the slice shipped to the other column. -/
def attB (q : Vec F S1024x1x128 .bf16) (k v ko : Vec F S1x1024x128 .bf16) (vo : Vec F S1x1024x128 .fp8e4m3) : FVec F S1x1024x128 .bf16 :=
  k0_pay10 (att q k v ko vo)
/-- A slice received from the other column, as the result's slice. -/
def twin (o : Vec F S1x1024x128 .bf16) : FVec F S1024x1x128 .f32 := k0_pay78 o

/-! ## The pieces -/

abbrev P (F : FTy → Type) : Type → Type 1 := Prog (TpuEff nD τ sig (Elt F) Λ₀ .tc)

/-- Head `i`'s slice of `src` sent to device `n`'s `dst`, a bf16 buffer. -/
def sendB (src dst : Memref sig .tc .vmem S8x1024x128 .bf16) (hs : src.IsWhole) (hd : dst.IsWhole) (sS sR : DmaSems sig S8) (n : Dev nD) (i : Fin 8) : P F PUnit :=
  Prog.lift (.enqueueDma (hM src i) (.remote (Dev.tc n) (hM dst i) (.dma (hS sS i))) (.dma (hS sR i)) ((hs.wordExact_slice rfl _ (wordsB i)).reshape _ _) ((hd.wordExact_slice rfl _ (wordsB i)).reshape _ _) ⟨⟨rfl, Or.inl rfl⟩, trivial⟩)
/-- Head `i`'s slice of `src` sent to device `n`'s `dst`, an fp8 buffer. -/
def sendE (src dst : Memref sig .tc .vmem S8x1024x128 .fp8e4m3) (hs : src.IsWhole) (hd : dst.IsWhole) (sS sR : DmaSems sig S8) (n : Dev nD) (i : Fin 8) : P F PUnit :=
  Prog.lift (.enqueueDma (hM src i) (.remote (Dev.tc n) (hM dst i) (.dma (hS sS i))) (.dma (hS sR i)) ((hs.wordExact_slice rfl _ (wordsE i)).reshape _ _) ((hd.wordExact_slice rfl _ (wordsE i)).reshape _ _) ⟨⟨rfl, Or.inl rfl⟩, trivial⟩)
/-- The wait on head `i`'s semaphore of `S` for a bf16 slice. -/
def waitB (S : DmaSems sig S8) (a b : Memref sig .tc .vmem S8x1024x128 .bf16) (ha : a.IsWhole) (hb : b.IsWhole) (i : Fin 8) : P F PUnit :=
  Prog.lift (.waitDma2 (hS S i) (hM a i) (hM b i) ((ha.wordExact_slice rfl _ (wordsB i)).reshape _ _) ((hb.wordExact_slice rfl _ (wordsB i)).reshape _ _))
/-- The wait on head `i`'s semaphore of `S` for an fp8 slice. -/
def waitE (S : DmaSems sig S8) (a b : Memref sig .tc .vmem S8x1024x128 .fp8e4m3) (ha : a.IsWhole) (hb : b.IsWhole) (i : Fin 8) : P F PUnit :=
  Prog.lift (.waitDma2 (hS S i) (hM a i) (hM b i) ((ha.wordExact_slice rfl _ (wordsE i)).reshape _ _) ((hb.wordExact_slice rfl _ (wordsE i)).reshape _ _))
/-- A head's slice read. -/
def loadH {e : EltTy} (M : Memref sig .tc .vmem S8x1024x128 e) (i : Fin 8) : P F (Vec F S1x1024x128 e) :=
  Prog.lift (.load M (hR i).toLoadRect (View.loadsAt_vmem h_S1x1024x128))
/-- A head of the queries read. -/
def loadQ (i : Fin 8) : P F (Vec F S1024x1x128 .bf16) :=
  Prog.lift (.load qM (qR i).toLoadRect (View.loadsAt_vmem h_S1024x1x128))
/-- Head `j` of the result written (over a read of what it held). -/
def putO (j : Fin 16) (x : FVec F S1024x1x128 .f32) : P F PUnit := do
  let _ ← Prog.lift (.load oM (oR j).toLoadRect (View.loadsAt_vmem h_S1024x1x128))
  Prog.lift (.store oM (oR j) x Finset.univ (View.stores_vmem_bits_univ h_S1024x1x128 rfl) (.inl rfl))
/-- Head `i` of the outgoing buffer written (over a read of what it held). -/
def putB (i : Fin 8) (x : FVec F S1x1024x128 .bf16) : P F PUnit := do
  let _ ← Prog.lift (.load obM (hR i).toLoadRect (View.loadsAt_vmem h_S1x1024x128))
  Prog.lift (.store obM (hR i) x Finset.univ (View.stores_vmem h_S1x1024x128 ((Memref.isWhole_whole cc0_scratch2).storeExact_slice rfl _ (packedB i)) (fun _ => rfl)) (.inl rfl))

/-- Head `i`'s keys and values sent to `n`. -/
def start (n : Dev nD) (i : Fin 8) : P F PUnit := do
  sendB kM koM (Memref.isWhole_whole _) (Memref.isWhole_whole _) cc0_scratch4 cc0_scratch5 n i
  sendE wM voM (Memref.isWhole_whole _) (Memref.isWhole_whole _) cc0_scratch6 cc0_scratch7 n i
/-- Head `i`'s attention, written as the result's head `j` and sent to `n`. -/
def head (n : Dev nD) (j : Fin 8 → Fin 16) (i : Fin 8) : P F PUnit := do
  let q ← loadQ i
  let k ← loadH kM i
  let v ← loadH vM i
  waitB cc0_scratch4 koM kM (Memref.isWhole_whole _) (Memref.isWhole_whole _) i
  waitB cc0_scratch5 kM koM (Memref.isWhole_whole _) (Memref.isWhole_whole _) i
  let ko ← loadH koM i
  waitE cc0_scratch6 voM wM (Memref.isWhole_whole _) (Memref.isWhole_whole _) i
  waitE cc0_scratch7 wM voM (Memref.isWhole_whole _) (Memref.isWhole_whole _) i
  let vo ← loadH voM i
  putO (j i) (attO q k v ko vo)
  putB i (attB q k v ko vo)
  sendB obM oiM (Memref.isWhole_whole _) (Memref.isWhole_whole _) cc0_scratch8 cc0_scratch9 n i
/-- The other column's head `i` received and written as the result's head `j`. -/
def recv (j : Fin 8 → Fin 16) (i : Fin 8) : P F PUnit := do
  waitB cc0_scratch9 obM oiM (Memref.isWhole_whole _) (Memref.isWhole_whole _) i
  let o ← loadH oiM i
  putO (j i) (twin o)
/-- The end of head `i`'s shipment awaited. -/
def sent (i : Fin 8) : P F PUnit :=
  waitB cc0_scratch8 oiM obM (Memref.isWhole_whole _) (Memref.isWhole_whole _) i

/-- A piece run for the eight heads in order. -/
def heads (p : Fin 8 → P F PUnit) : P F PUnit := do
  p 0; p 1; p 2; p 3; p 4; p 5; p 6; p 7

/-- A column's program: its keys and values sent to `y`, its heads computed into the result's heads `mine` and sent to
    `x`, the other column's heads received into the result's heads `his`. -/
def col (y x : Dev nD) (mine his : Fin 8 → Fin 16) : P F PUnit := do
  heads (start y)
  heads (head x mine)
  heads (recv his)
  heads sent

/-- The result's lower heads and its upper heads. -/
def lo (i : Fin 8) : Fin 16 := ⟨i.val, by omega⟩
def hi (i : Fin 8) : Fin 16 := ⟨8 + i.val, by omega⟩

end Cert.KernelIdeal.Attn

end
-- ==== Proof.Slices.lean ====
/- The heads' slices of the buffers: each buffer of eight heads is cut into its slices and put together again, a transfer
   of a slice carries the source's contents, and a written head holds what was written. -/
module

public import proofs.«01_k».proof.Proof.Pieces
public import Idealize.ShloMosaic.Lib.Ring
public import Idealize.ShloMosaic.Lib.Rounds
public import Idealize.ShloMosaic.Lib.Pipeline.Kit
public import Idealize.ShloMosaic.Lib.Tactic

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type}

/-! ## The resource algebra: the pipeline library's copy and the protocol's -/

abbrev UB : Type := Rounds.URounds (GSem nD τ sig) Bool
abbrev UU : Type := UR sig nD τ × UB

local notation "𝕄" => MT nD τ sig Unit (Elt F) ℕ UU ℕ

/-- The pipeline library's copy (left) and the protocol's (right). -/
abbrev EP : Emb (UR sig nD τ) (MT nD τ sig Unit (Elt F) ℕ UU ℕ) := embL
abbrev ER : Emb UB (MT nD τ sig Unit (Elt F) ℕ UU ℕ) := embR

/-! ## Slices -/

/-- Head `i`'s slice of a buffer of device `c`, at a share and at contents of the whole buffer. -/
abbrev slc {e : EltTy} (M : Memref sig .tc .vmem S8x1024x128 e) (i : Fin 8) (c : Dev nD) (q : PosShare TreeShare)
    (f : Buf (Elt F) (M.view.loc (c : Thread nD τ))) : sProp 𝕄 :=
  M.view.loc (c : Thread nD τ) ↦[(hM M i).view.set]{q} f

theorem set_hM {e : EltTy} (M : Memref sig .tc .vmem S8x1024x128 e) (i : Fin 8) : (hM M i).view.set = (M.view.slice (hR i)).set :=
  View.set_reshape _ _

theorem mem_hR {i : Fin 8} {x : S8x1024x128.Idx} : x ∈ (hR i).set ↔ x 0 = i := by
  rw [Rect.mem_set_unit]
  constructor
  · intro h
    have h0 := h 0
    simp only [Matrix.cons_val_zero] at h0
    exact Fin.ext (by have : S1x1024x128.size 0 = 1 := rfl; omega)
  · rintro rfl a
    fin_cases a
    · exact ⟨le_refl _, Nat.lt_succ_self _⟩
    · exact ⟨Nat.zero_le _, by simpa using (x 1).isLt⟩
    · exact ⟨Nat.zero_le _, by simpa using (x 2).isLt⟩

theorem hR_disjoint (i j : Fin 8) (h : i ≠ j) : Disjoint (hR i).set (hR j).set :=
  Finset.disjoint_left.mpr fun x hi hj => h ((mem_hR.mp hi).symm.trans (mem_hR.mp hj))

theorem hR_cover : Finset.univ.biUnion (fun i : Fin 8 => (hR i).set) = Finset.univ :=
  Finset.eq_univ_of_forall fun x => Finset.mem_biUnion.mpr ⟨x 0, Finset.mem_univ _, mem_hR.mpr rfl⟩

theorem set_map {e : EltTy} (M : Memref sig .tc .vmem S8x1024x128 e) (i : Fin 8) : (hM M i).view.set = (hR i).set.map M.view.emb :=
  (set_hM M i).trans (View.set_slice _ _)

theorem map_disjoint {e : EltTy} (M : Memref sig .tc .vmem S8x1024x128 e) (i j : Fin 8) (h : i ≠ j) :
    Disjoint (hM M i).view.set (hM M j).view.set := by
  rw [set_map, set_map]
  exact (Finset.disjoint_map _).mpr (hR_disjoint i j h)

theorem map_cover {e : EltTy} (M : Memref sig .tc .vmem S8x1024x128 e) :
    Finset.univ.biUnion (fun i : Fin 8 => (hM M i).view.set) = M.view.set := by
  refine Finset.ext fun x => ⟨fun h => ?_, fun h => ?_⟩
  · obtain ⟨i, -, hx⟩ := Finset.mem_biUnion.mp h
    rw [set_map] at hx
    obtain ⟨y, -, rfl⟩ := Finset.mem_map.mp hx
    exact View.emb_mem_set _ y
  · obtain ⟨y, -, rfl⟩ := Finset.mem_map.mp h
    obtain ⟨i, hi⟩ : ∃ i : Fin 8, y 0 = i := ⟨y 0, rfl⟩
    refine Finset.mem_biUnion.mpr ⟨i, Finset.mem_univ _, ?_⟩
    rw [set_map]
    exact Finset.mem_map_of_mem _ (mem_hR.mpr hi)

/-- A buffer of eight heads, held whole, is held slice by slice. -/
theorem slices {e : EltTy} (M : Memref sig .tc .vmem S8x1024x128 e) (c : Dev nD) (q : PosShare TreeShare)
    (f : Buf (Elt F) (M.view.loc (c : Thread nD τ))) :
    (M.view.loc (c : Thread nD τ) ↦[M.view.set]{q} f : sProp 𝕄) = bigSep Finset.univ fun i : Fin 8 => slc M i c q f :=
  Ring.pointsTo_sub_blocks (ℓ := M.view.loc (c : Thread nD τ)) (fun i : Fin 8 => (hM M i).view.set) (map_disjoint M) M.view.set (map_cover M) f

/-- Slices at contents of their own join to the buffer at some contents. -/
theorem slices_join {e : EltTy} (M : Memref sig .tc .vmem S8x1024x128 e) (c : Dev nD) (q : PosShare TreeShare)
    (f₀ : Buf (Elt F) (M.view.loc (c : Thread nD τ))) :
    bigSep Finset.univ (fun i : Fin 8 => iprop(∃ f, slc M i c q f))
      ⊢ (iprop(∃ g, M.view.loc (c : Thread nD τ) ↦[M.view.set]{q} g) : sProp 𝕄) :=
  Ring.pointsTo_sub_blocks_join_exists (ℓ := M.view.loc (c : Thread nD τ)) (fun i : Fin 8 => (hM M i).view.set) (map_disjoint M) M.view.set (map_cover M) f₀

/-- Two buffers of eight heads at the same element type whose contents are named the same way: the slice transferred
    from one to the other holds the source's contents. -/
theorem transfer_kko (i : Fin 8) (c n : Dev nD) (q : PosShare TreeShare) (fd : S8x1024x128.Idx → Elt F .bf16) (fs : S8x1024x128.Idx → Elt F .bf16) :
    (slc koM i n q ((hM koM i).view.write (Elt F) fd ((hM kM i).view.read (Elt F) fs) Finset.univ) : sProp 𝕄) = slc koM i n q fs :=
  pointsTo_congr fun x hx => by
    obtain ⟨y, -, rfl⟩ := Finset.mem_map.mp hx
    exact (View.write_emb_of_mem _ _ (Finset.mem_univ y)).trans rfl
theorem transfer_wvo (i : Fin 8) (n : Dev nD) (q : PosShare TreeShare) (fd : S8x1024x128.Idx → Elt F .fp8e4m3) (fs : S8x1024x128.Idx → Elt F .fp8e4m3) :
    (slc voM i n q ((hM voM i).view.write (Elt F) fd ((hM wM i).view.read (Elt F) fs) Finset.univ) : sProp 𝕄) = slc voM i n q fs :=
  pointsTo_congr fun x hx => by
    obtain ⟨y, -, rfl⟩ := Finset.mem_map.mp hx
    exact (View.write_emb_of_mem _ _ (Finset.mem_univ y)).trans rfl
theorem transfer_oboi (i : Fin 8) (n : Dev nD) (q : PosShare TreeShare) (fd : S8x1024x128.Idx → Elt F .bf16) (fs : S8x1024x128.Idx → Elt F .bf16) :
    (slc oiM i n q ((hM oiM i).view.write (Elt F) fd ((hM obM i).view.read (Elt F) fs) Finset.univ) : sProp 𝕄) = slc oiM i n q fs :=
  pointsTo_congr fun x hx => by
    obtain ⟨y, -, rfl⟩ := Finset.mem_map.mp hx
    exact (View.write_emb_of_mem _ _ (Finset.mem_univ y)).trans rfl

/-! ## A head's place in a slice -/

/-- The place of a buffer's element in its head's slice. -/
def inH (x : S8x1024x128.Idx) : S1x1024x128.Idx := fun a => match a with | 0 => ⟨0, by decide⟩ | 1 => x 1 | 2 => x 2
/-- The place of a result's element in its head's slice. -/
def inO (x : S1024x16x128.Idx) : S1024x1x128.Idx := fun a => match a with | 0 => x 0 | 1 => ⟨0, by decide⟩ | 2 => x 2

theorem hR_emb (i : Fin 8) (y : S1x1024x128.Idx) : ((hR i).emb y) 0 = i ∧ inH ((hR i).emb y) = y := by
  constructor
  · exact mem_hR.mp (((hR i).mem_set.mpr fun a => ⟨y a, (y a).isLt, rfl⟩))
  · funext a
    fin_cases a
    · exact Fin.ext (by have : (y 0).val < 1 := (y 0).isLt; show 0 = (y 0).val; omega)
    · exact Fin.ext (by show 0 + 1 * (y 1).val = (y 1).val; omega)
    · exact Fin.ext (by show 0 + 1 * (y 2).val = (y 2).val; omega)

theorem mem_oR {j : Fin 16} {x : S1024x16x128.Idx} : x ∈ (oR j).set ↔ x 1 = j := by
  rw [Rect.mem_set_unit]
  constructor
  · intro h
    have h0 := h 1
    simp only [Matrix.cons_val_one, Matrix.cons_val_zero] at h0
    exact Fin.ext (by have : S1024x1x128.size 1 = 1 := rfl; omega)
  · rintro rfl a
    fin_cases a
    · exact ⟨Nat.zero_le _, by simpa using (x 0).isLt⟩
    · exact ⟨le_refl _, Nat.lt_succ_self _⟩
    · exact ⟨Nat.zero_le _, by simpa using (x 2).isLt⟩

theorem oR_emb (j : Fin 16) (y : S1024x1x128.Idx) : ((oR j).emb y) 1 = j ∧ inO ((oR j).emb y) = y := by
  constructor
  · exact mem_oR.mp (((oR j).mem_set.mpr fun a => ⟨y a, (y a).isLt, rfl⟩))
  · funext a
    fin_cases a
    · exact Fin.ext (by show 0 + 1 * (y 0).val = (y 0).val; omega)
    · exact Fin.ext (by have : (y 1).val < 1 := (y 1).isLt; show 0 = (y 1).val; omega)
    · exact Fin.ext (by show 0 + 1 * (y 2).val = (y 2).val; omega)

/-- A written head of the outgoing buffer holds what was written. -/
theorem write_ob (i : Fin 8) (c : Dev nD) (q : PosShare TreeShare) (f : S8x1024x128.Idx → Elt F .bf16) (w : FVec F S1x1024x128 .bf16)
    (g : S8x1024x128.Idx → Elt F .bf16) (hg : ∀ x, x 0 = i → g x = w (inH x)) :
    (slc obM i c q ((obM.access (hR i)).write (Elt F) f w Finset.univ) : sProp 𝕄) = slc obM i c q g :=
  pointsTo_congr fun x hx => by
    rw [set_hM] at hx
    obtain ⟨y, -, rfl⟩ := Finset.mem_map.mp hx
    refine (View.write_emb_of_mem (v := obM.access (hR i)) _ _ (Finset.mem_univ y)).trans ?_
    refine Eq.symm ((hg _ (hR_emb i y).1).trans ?_)
    show w (inH ((hR i).emb y)) = w y
    rw [(hR_emb i y).2]

/-- Writing head `j` of the result: that head holds what was written, the others what they held. -/
theorem write_o (j : Fin 16) (f : S1024x16x128.Idx → Elt F .f32) (w : FVec F S1024x1x128 .f32) (x : S1024x16x128.Idx) :
    (oM.access (oR j)).write (Elt F) f w Finset.univ x = if (x 1).val = j.val then w (inO x) else f x := by
  by_cases h : (x 1).val = j.val
  · rw [if_pos h]
    have hx : x ∈ (oM.access (oR j)).set := by
      rw [show (oM.access (oR j)).set = (oR j).set from View.set_slice_whole _ _]; exact mem_oR.mpr (Fin.ext h)
    obtain ⟨y, -, rfl⟩ := Finset.mem_map.mp hx
    refine (View.write_emb_of_mem (v := oM.access (oR j)) _ _ (Finset.mem_univ y)).trans ?_
    show w y = w (inO ((oR j).emb y))
    rw [(oR_emb j y).2]
  · rw [if_neg h]
    refine View.write_of_not_mem _ _ _ fun hx => h ?_
    obtain ⟨y, -, hy⟩ := Finset.mem_map.mp hx
    rw [← hy]
    exact congrArg Fin.val (oR_emb j y).1

end Cert.KernelIdeal.Attn

end
-- ==== Proof.Schedule.lean ====
/- The protocol of the four devices: who talks to whom, what each buffer holds once the transfers have landed, the cells
   (the barrier and six arrays of eight transfer semaphores), what each hands over, what each device owes at launch and the
   levels that order the waits. -/
module

public import proofs.«01_k».proof.Proof.Slices

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-! ## The neighbours -/

set_option backward.proofsInPublic true in
/-- The device of the same column that holds the other half of the rows. -/
def yp (c : Dev nD) : Dev nD := ⟨c.val / 2 * 2 + (1 - c.val % 2), by have : c.val < 4 := c.isLt; show _ < 4; omega⟩
set_option backward.proofsInPublic true in
/-- The device of the same rows in the other column. -/
def xp (c : Dev nD) : Dev nD := ⟨(c.val + 2) % 4, Nat.mod_lt _ (by decide)⟩

theorem yp_yp (c : Dev nD) : yp (yp c) = c := by revert c; decide
theorem xp_xp (c : Dev nD) : xp (xp c) = c := by revert c; decide
theorem yp_ne_xp (c : Dev nD) : yp c ≠ xp c := by revert c; decide
def yRing : Dev nD ≃ Dev nD := ⟨yp, yp, yp_yp, yp_yp⟩
def xRing : Dev nD ≃ Dev nD := ⟨xp, xp, xp_xp, xp_xp⟩

theorem dev1_eq (c : Dev nD) : (⟨k0_dev1 c, k0_dev1_lt c⟩ : Dev nD) = yp c := Fin.ext ((k0_dev1_eq c).trans (by revert c; decide))
theorem dev2_eq (c : Dev nD) : (⟨k0_dev2 c, k0_dev2_lt c⟩ : Dev nD) = xp c := Fin.ext ((k0_dev2_eq c).trans (by revert c; decide))
theorem cond1_iff (c : Dev nD) : k0_cond1 c = 1#1 ↔ c.val / 2 = 0 := by revert c; decide
theorem cond2_iff (c : Dev nD) : k0_cond2 c = 1#1 ↔ c.val / 2 = 1 := by revert c; decide
theorem dev3_eq (c : Dev nD) (h : k0_cond1 c = 1#1) : (⟨k0_dev3 c, k0_dev3_lt c h⟩ : Dev nD) = yp c :=
  Fin.ext ((k0_dev3_eq c).trans (by have := (cond1_iff c).mp h; show _ = c.val / 2 * 2 + (1 - c.val % 2); omega))
theorem dev19_eq (c : Dev nD) (h : k0_cond1 c = 1#1) : (⟨k0_dev19 c, k0_dev19_lt c h⟩ : Dev nD) = xp c :=
  Fin.ext ((k0_dev19_eq c).trans (by have := (cond1_iff c).mp h; show _ = (c.val + 2) % 4; omega))
theorem dev27_eq (c : Dev nD) (h : k0_cond2 c = 1#1) : (⟨k0_dev27 c, k0_dev27_lt c h⟩ : Dev nD) = yp c :=
  Fin.ext ((k0_dev27_eq c).trans (by have := (cond2_iff c).mp h; have : c.val < 4 := c.isLt; show _ = c.val / 2 * 2 + (1 - c.val % 2); omega))
theorem dev43_eq (c : Dev nD) (h : k0_cond2 c = 1#1) : (⟨k0_dev43 c, k0_dev43_lt c h⟩ : Dev nD) = xp c :=
  Fin.ext ((k0_dev43_eq c).trans (by have := (cond2_iff c).mp h; have : c.val < 4 := c.isLt; show _ = (c.val + 2) % 4; omega))

/-! ## What the buffers hold -/

/-- What each device's staging buffers hold when the kernel starts: its column's queries, keys, values and the values
    rounded for shipping. -/
structure In (F : FTy → Type) where
  q : Dev nD → S1024x8x128.Idx → Elt F .bf16
  k : Dev nD → S8x1024x128.Idx → Elt F .bf16
  v : Dev nD → S8x1024x128.Idx → Elt F .bf16
  w : Dev nD → S8x1024x128.Idx → Elt F .fp8e4m3

variable (X : In F) (c : Dev nD) (i : Fin 8)

/-- The slices head `i` of device `c` reads: its queries, keys and values, and its row peer's keys and values. -/
abbrev qS : Vec F S1024x1x128 .bf16 := qM.view.readAt (Elt F) (qR i).toLoadRect (X.q c)
abbrev kS : Vec F S1x1024x128 .bf16 := kM.view.readAt (Elt F) (hR i).toLoadRect (X.k c)
abbrev vS : Vec F S1x1024x128 .bf16 := vM.view.readAt (Elt F) (hR i).toLoadRect (X.v c)
abbrev koS : Vec F S1x1024x128 .bf16 := koM.view.readAt (Elt F) (hR i).toLoadRect (X.k (yp c))
abbrev voS : Vec F S1x1024x128 .fp8e4m3 := voM.view.readAt (Elt F) (hR i).toLoadRect (X.w (yp c))

/-- Head `i`'s result on device `c`, and the rounded copy it ships. -/
def own : FVec F S1024x1x128 .f32 := attO (qS X c i) (kS X c i) (vS X c i) (koS X c i) (voS X c i)
def ship : FVec F S1x1024x128 .bf16 := attB (qS X c i) (kS X c i) (vS X c i) (koS X c i) (voS X c i)
/-- The outgoing buffer once every head is written. -/
def ob : S8x1024x128.Idx → Elt F .bf16 := fun x => ship X c (x 0) (inH x)
/-- What device `c` makes of head `i` received from the other column. -/
def got : FVec F S1024x1x128 .f32 := twin (oiM.view.readAt (Elt F) (hR i).toLoadRect (ob X (xp c)))

/-- The result's heads that device `c` computes, and those it receives. -/
def mine : Fin 16 := ⟨8 * (c.val / 2) + i.val, by have : c.val < 4 := c.isLt; omega⟩
def his : Fin 16 := ⟨8 * (1 - c.val / 2) + i.val, by omega⟩

/-- Device `c`'s result. -/
def out : S1024x16x128.Idx → Elt F .f32 := fun x =>
  if (x 1).val / 8 = c.val / 2 then own X c ⟨(x 1).val % 8, Nat.mod_lt _ (by decide)⟩ (inO x)
  else got X c ⟨(x 1).val % 8, Nat.mod_lt _ (by decide)⟩ (inO x)

/-- The order in which device `c` writes the result's heads. -/
def ord (j : ℕ) : ℕ := (j + 8 * (c.val / 2)) % 16
/-- The first `s` heads written are right. -/
def Holds (s : ℕ) (f : S1024x16x128.Idx → Elt F .f32) : Prop := ∀ x, ord c (x 1).val < s → f x = out X c x

theorem holds_zero (f : S1024x16x128.Idx → Elt F .f32) : Holds X c 0 f := fun _ h => absurd h (Nat.not_lt_zero _)
theorem holds_all {f : S1024x16x128.Idx → Elt F .f32} (h : Holds X c 16 f) : f = out X c := funext fun x => h x (Nat.mod_lt _ (by decide))

theorem holds_mine {f : S1024x16x128.Idx → Elt F .f32} (h : Holds X c i.val f) :
    Holds X c (i.val + 1) ((oM.access (oR (mine c i))).write (Elt F) f (own X c i) Finset.univ) := fun x hx => by
  have hc : c.val < 4 := c.isLt
  have h16 : (x 1).val < 16 := (x 1).isLt
  rw [write_o]
  by_cases e : (x 1).val = (mine c i).val
  · rw [if_pos e]
    have e' : (x 1).val = 8 * (c.val / 2) + i.val := e
    unfold out
    rw [if_pos (by omega)]
    have hi : (⟨(x 1).val % 8, Nat.mod_lt _ (by decide)⟩ : Fin 8) = i := Fin.ext (by show (x 1).val % 8 = i.val; omega)
    rw [hi]
  · rw [if_neg e]
    refine h x ?_
    have e' : (x 1).val ≠ 8 * (c.val / 2) + i.val := e
    unfold ord at hx ⊢
    omega
theorem holds_his {f : S1024x16x128.Idx → Elt F .f32} (h : Holds X c (8 + i.val) f) :
    Holds X c (8 + (i.val + 1)) ((oM.access (oR (his c i))).write (Elt F) f (got X c i) Finset.univ) := fun x hx => by
  have hc : c.val < 4 := c.isLt
  have h16 : (x 1).val < 16 := (x 1).isLt
  rw [write_o]
  by_cases e : (x 1).val = (his c i).val
  · rw [if_pos e]
    have e' : (x 1).val = 8 * (1 - c.val / 2) + i.val := e
    unfold out
    rw [if_neg (by omega)]
    have hi : (⟨(x 1).val % 8, Nat.mod_lt _ (by decide)⟩ : Fin 8) = i := Fin.ext (by show (x 1).val % 8 = i.val; omega)
    rw [hi]
  · rw [if_neg e]
    refine h x ?_
    have e' : (x 1).val ≠ 8 * (1 - c.val / 2) + i.val := e
    unfold ord at hx ⊢
    omega

theorem mine_col0 (h : c.val / 2 = 0) : mine c = lo := funext fun i => Fin.ext (by show 8 * (c.val / 2) + i.val = i.val; omega)
theorem his_col0 (h : c.val / 2 = 0) : his c = hi := funext fun i => Fin.ext (by show 8 * (1 - c.val / 2) + i.val = 8 + i.val; omega)
theorem mine_col1 (h : c.val / 2 = 1) : mine c = hi := funext fun i => Fin.ext (by show 8 * (c.val / 2) + i.val = 8 + i.val; omega)
theorem his_col1 (h : c.val / 2 = 1) : his c = lo := funext fun i => Fin.ext (by show 8 * (1 - c.val / 2) + i.val = i.val; omega)

/-! ## The cells -/

/-- The runtime's barrier semaphore. -/
abbrev barS : Sem sig := (SemArray.scalar (sig.barrier 0 rfl) : Sems sig S_).sem
/-- Semaphore `i` of the array `k`: keys sent, keys received, values sent, values received, results sent, results received. -/
def dS (k : Fin 6) (i : Fin 8) : DmaSem sig := (⟨5 + 8 * k.val + i.val, by omega⟩ : Fin 53)

theorem hS4 : ∀ i : Fin 8, hS cc0_scratch4 i = dS 0 i := by decide
theorem hS5 : ∀ i : Fin 8, hS cc0_scratch5 i = dS 1 i := by decide
theorem hS6 : ∀ i : Fin 8, hS cc0_scratch6 i = dS 2 i := by decide
theorem hS7 : ∀ i : Fin 8, hS cc0_scratch7 i = dS 3 i := by decide
theorem hS8 : ∀ i : Fin 8, hS cc0_scratch8 i = dS 4 i := by decide
theorem hS9 : ∀ i : Fin 8, hS cc0_scratch9 i = dS 5 i := by decide

/-- A transfer semaphore's array and place. -/
def kOf (q : DmaSem sig) : ℕ := (q.val - 5) / 8
def hOf (q : DmaSem sig) : Fin 8 := ⟨(q.val - 5) % 8, Nat.mod_lt _ (by decide)⟩
theorem kOf_dS (k : Fin 6) (i : Fin 8) : kOf (dS k i) = k.val := by show (5 + 8 * k.val + i.val - 5) / 8 = k.val; omega
theorem hOf_dS (k : Fin 6) (i : Fin 8) : hOf (dS k i) = i := Fin.ext (by show (5 + 8 * k.val + i.val - 5) % 8 = i.val; omega)
theorem dS_ge (k : Fin 6) (i : Fin 8) : ¬ (dS k i).val < 5 := by show ¬ 5 + 8 * k.val + i.val < 5; omega
theorem dS_inj {k k' : Fin 6} {i i' : Fin 8} (h : dS k i = dS k' i') : k = k' ∧ i = i' :=
  ⟨Fin.ext (by rw [← kOf_dS k i, ← kOf_dS k' i', h]), by rw [← hOf_dS k i, ← hOf_dS k' i', h]⟩

abbrev barCell (c : Dev nD) : GSem nD τ sig := ((c : Thread nD τ), .reg barS)
abbrev cell (c : Dev nD) (k : Fin 6) (i : Fin 8) : GSem nD τ sig := ((c : Thread nD τ), .dma (dS k i))

theorem cell_inj {c c' : Dev nD} {k k' : Fin 6} {i i' : Fin 8} (h : cell c k i = cell c' k' i') : c = c' ∧ k = k' ∧ i = i' :=
  ⟨congrArg (fun g : GSem nD τ sig => g.1.1) h, dS_inj (SemLoc.dma.inj (congrArg Prod.snd h))⟩
theorem cell_ne_bar (c c' : Dev nD) (k : Fin 6) (i : Fin 8) : cell c k i ≠ barCell c' := fun h => by
  have := congrArg Prod.snd h; cases this

/-- What a transfer of a slice credits: of bf16 elements, of fp8 elements. -/
abbrev NB : ℕ := (hM koM 0).view.dmaCredit
abbrev NE : ℕ := (hM voM 0).view.dmaCredit
theorem NB_pos : 0 < NB := View.dmaCredit_pos _ (by decide)
theorem NE_pos : 0 < NE := View.dmaCredit_pos _ (by decide)
/-- What the cells of array `k` are credited. -/
def amt (k : ℕ) : ℕ := if k = 2 ∨ k = 3 then NE else NB
theorem amt_pos (k : ℕ) : 0 < amt k := by unfold amt; split; exacts [NE_pos, NB_pos]

/-! ## The schedule -/

/-- What a transfer cell of device `c` hands over: a send cell the source's slice back (of the keys half the share: they are
    read while they travel), a receive cell the destination's slice, holding what the sender's buffer held. -/
def pay (k : ℕ) : sProp 𝕄 := match k with
  | 0 => slc kM i c fullShare.left (X.k c)
  | 1 => slc koM i c fullShare (X.k (yp c))
  | 2 => slc wM i c fullShare (X.w c)
  | 3 => slc voM i c fullShare (X.w (yp c))
  | 4 => slc obM i c fullShare (ob X c)
  | 5 => slc oiM i c fullShare (ob X (xp c))
  | _ => iprop(emp)

/-- A slice to be written, of device `c`, with the fact that its cell may be credited. -/
abbrev dst {e : EltTy} (M : Memref sig .tc .vmem S8x1024x128 e) (k : Fin 6) (c : Dev nD) (i : Fin 8) : sProp 𝕄 :=
  iprop((∃ f, slc M i c fullShare f) ∗ reached ER (cell c k i) 0)
/-- What device `c`'s row peer hands it at the barrier: its landing buffers for keys and values; -/
abbrev barPayY (c : Dev nD) : sProp 𝕄 := bigSep Finset.univ fun i : Fin 8 => iprop(dst (F := F) koM 1 (yp c) i ∗ dst (F := F) voM 3 (yp c) i)
/-- and its column peer: its landing buffer for results. -/
abbrev barPayX (c : Dev nD) : sProp 𝕄 := bigSep Finset.univ fun i : Fin 8 => dst (F := F) oiM 5 (xp c) i

abbrev IsBar (g : GSem nD τ sig) : Prop := g.1.2 = .tc ∧ g.2 = .reg barS
abbrev IsX (g : GSem nD τ sig) : Prop := g.1.2 = .tc ∧ ∃ (k : Fin 6) (i : Fin 8), g.2 = .dma (dS k i)

open Classical in
/-- One round, round 0: a barrier cell has the duties `false` (from the row peer) and `true` (from the column peer) of one
    unit each; a transfer cell the duty `false` of its slice's credit. -/
def rd : Rounds.Schedule (GSem nD τ sig) Bool 𝕄 where
  duties g r := if r = 0 ∧ IsBar g then Finset.univ else if r = 0 ∧ IsX g then {false} else ∅
  unitless _ := False
  amount g _ _ := match g.2 with | .reg _ => 1 | .dma q => amt (kOf q)
  payload g _ d := match g.2 with
    | .reg _ => (match d with | false => barPayY g.1.1 | true => barPayX g.1.1)
    | .dma q => pay X g.1.1 (hOf q) (kOf q)
  amount_pos g _ _ _ := by
    rcases g with ⟨t, _ | q⟩
    · exact Nat.one_pos
    · exact amt_pos _

instance pay_storable (k : ℕ) : BI.Storable (upEmb : UEmb _ 𝕄) (pay X c i k) := by
  unfold pay; split <;> infer_instance

set_option synthInstance.maxHeartbeats 400000 in
instance dst_storable {e : EltTy} (M : Memref sig .tc .vmem S8x1024x128 e) (k : Fin 6) (c : Dev nD) (i : Fin 8) :
    BI.Storable (upEmb : UEmb _ 𝕄) (dst (F := F) M k c i) := by infer_instance

set_option synthInstance.maxHeartbeats 400000 in
instance rd_storable (g : GSem nD τ sig) (r : ℕ) (d : Bool) : BI.Storable (upEmb : UEmb _ 𝕄) ((rd X).payload g r d) := by
  rcases g with ⟨t, _ | q⟩
  · cases d
    · show BI.Storable upEmb (barPayY (F := F) t.1); infer_instance
    · show BI.Storable upEmb (barPayX (F := F) t.1); infer_instance
  · exact pay_storable X t.1 (hOf q) (kOf q)

theorem duties_bar : (rd X).duties (barCell c) 0 = Finset.univ := by dsimp only [rd]; exact if_pos ⟨rfl, rfl, rfl⟩
theorem not_bar (k : Fin 6) : ¬ IsBar (cell c k i) := fun h => by cases h.2
theorem duties_cell (k : Fin 6) : (rd X).duties (cell c k i) 0 = {false} := by
  dsimp only [rd]; rw [if_neg (fun h => not_bar c i k h.2)]; exact if_pos ⟨rfl, rfl, k, i, rfl⟩
theorem duties_later (g : GSem nD τ sig) : ∀ r, 1 ≤ r → (rd X).duties g r = ∅ :=
  fun r hr => by dsimp only [rd]; rw [if_neg fun h => by omega, if_neg fun h => by omega]
theorem amount_bar (d : Bool) : (rd X).amount (barCell c) 0 d = 1 := rfl
theorem amount_cell (k : Fin 6) (d : Bool) : (rd X).amount (cell c k i) 0 d = amt k.val := by
  show amt (kOf (dS k i)) = _; rw [kOf_dS]
theorem expect_bar : (rd X).expect (barCell c) 0 = 2 := by
  unfold Schedule.expect Schedule.amountOf
  rw [duties_bar, Finset.sum_congr rfl fun d _ => amount_bar X c d, Finset.sum_const, Finset.card_univ, Fintype.card_bool, smul_eq_mul]
theorem expect_cell (k : Fin 6) : (rd X).expect (cell c k i) 0 = amt k.val := by
  unfold Schedule.expect Schedule.amountOf; rw [duties_cell, Finset.sum_singleton, amount_cell]
theorem payload_cell (k : Fin 6) (d : Bool) : (rd X).payload (cell c k i) 0 d = pay X c i k.val := by
  show pay X c (hOf (dS k i)) (kOf (dS k i)) = _; rw [hOf_dS, kOf_dS]
theorem rest_bar : bigSep ((rd X).duties (barCell c) 0 \ ∅) (fun d => (rd X).payload (barCell c) 0 d)
    = (iprop(barPayY c ∗ barPayX c) : sProp 𝕄) := by
  rw [Finset.sdiff_empty, duties_bar, bigSep_univ_eq_bigSepL [false, true] (by decide) (by decide), bigSepL_cons_cons, bigSepL_singleton]
  rfl
theorem rest_cell (k : Fin 6) : bigSep ((rd X).duties (cell c k i) 0 \ ∅) (fun d => (rd X).payload (cell c k i) 0 d) = pay X c i k.val := by
  rw [Finset.sdiff_empty, duties_cell, bigSep_singleton, payload_cell]

/-! ## What each device owes, and the levels -/

/-- The credits device `c` still owes its column peer's result cells after `s` heads; -/
def Oo (s : ℕ) : CellTallies nD τ sig Unit := ∑ i : Fin 8, if s ≤ i.val then tallyAt (cell (xp c) 5 i) () NB else 0
/-- and its row peer's key and value cells. -/
def Ok (s : ℕ) : CellTallies nD τ sig Unit :=
  ∑ i : Fin 8, if s ≤ i.val then tallyAt (cell (yp c) 3 i) () NE + tallyAt (cell (yp c) 1 i) () NB else 0
def O₂ : CellTallies nD τ sig Unit := Oo c 0 + Ok c 0
def O₁ : CellTallies nD τ sig Unit := O₂ c + tallyAt (barCell (xp c)) () 1
def O₀ : CellTallies nD τ sig Unit := O₁ c + tallyAt (barCell (yp c)) () 1

theorem sum_step {A : Type} [AddCommMonoid A] (f : Fin 8 → A) (i : Fin 8) :
    (∑ j : Fin 8, if i.val ≤ j.val then f j else 0) = (∑ j : Fin 8, if i.val + 1 ≤ j.val then f j else 0) + f i := by
  rw [← Finset.add_sum_erase _ _ (Finset.mem_univ i), ← Finset.add_sum_erase (Finset.univ : Finset (Fin 8)) (fun j => if i.val + 1 ≤ j.val then f j else 0) (Finset.mem_univ i),
    if_pos (le_refl _), if_neg (by omega), zero_add, add_comm]
  refine congrArg (· + f i) (Finset.sum_congr rfl fun j hj => ?_)
  have hne : j.val ≠ i.val := fun h => Finset.ne_of_mem_erase hj (Fin.ext h)
  by_cases h : i.val ≤ j.val
  · rw [if_pos h, if_pos (by omega)]
  · rw [if_neg h, if_neg (by omega)]
theorem sum_end {A : Type} [AddCommMonoid A] (f : Fin 8 → A) : (∑ j : Fin 8, if 8 ≤ j.val then f j else 0) = 0 :=
  Finset.sum_eq_zero fun j _ => if_neg (by omega)

theorem Oo_step : Oo c i.val = Oo c (i.val + 1) + tallyAt (cell (xp c) 5 i) () NB := sum_step _ i
theorem Ok_step : Ok c i.val = Ok c (i.val + 1) + tallyAt (cell (yp c) 3 i) () NE + tallyAt (cell (yp c) 1 i) () NB :=
  (sum_step (fun j => tallyAt (cell (yp c) 3 j) () NE + tallyAt (cell (yp c) 1 j) () NB) i).trans (add_assoc _ _ _).symm
theorem Oo_end : Oo c 8 = 0 := sum_end _
theorem Ok_end : Ok c 8 = 0 := sum_end _

def L (g : GSem nD τ sig) : Finset Unit := if g.1.2 = .tc then {()} else ∅
/-- Barrier cells at 1, key and value receive cells at 2, result receive cells at 3, everything else at 0. -/
def lvK (k : ℕ) : ℕ := if k = 1 ∨ k = 3 then 2 else if k = 5 then 3 else 0
def lv (g : GSem nD τ sig) (_ : Unit) : ℕ := match g.2 with | .reg _ => 1 | .dma q => if q.val < 5 then 0 else lvK (kOf q)

theorem L_of_ne (g : GSem nD τ sig) (h : g.1.2 ≠ .tc) : L g = ∅ := if_neg h
theorem L_tc (c : Dev nD) (sm : SemLoc sig) : L ((c : Thread nD τ), sm) = {()} := if_pos rfl
theorem lv_cell (k : Fin 6) (u : Unit) : lv (cell c k i) u = lvK k.val := by
  show (if (dS k i).val < 5 then 0 else lvK (kOf (dS k i))) = _; rw [if_neg (dS_ge k i), kOf_dS]

theorem pos_sum {f : Fin 8 → CellTallies nD τ sig Unit} {s : ℕ} {g : GSem nD τ sig} {u : Unit}
    (h : 0 < (∑ j : Fin 8, if s ≤ j.val then f j else 0 : CellTallies nD τ sig Unit) g u) : ∃ j, 0 < f j g u := by
  by_contra hn
  simp only [not_exists, not_lt, Nat.le_zero] at hn
  refine absurd h ?_
  rw [Finset.sum_apply, Finsupp.finset_sum_apply, Finset.sum_eq_zero fun j _ => ?_]
  · exact Nat.lt_irrefl 0
  · split
    · exact hn j
    · rfl
theorem pos_tally {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h
theorem pos_add {A B : CellTallies nD τ sig Unit} {g : GSem nD τ sig} {u : Unit} (h : 0 < (A + B) g u) : 0 < A g u ∨ 0 < B g u := by
  rw [Pi.add_apply, Finsupp.add_apply] at h
  omega

theorem Oo_pos {c : Dev nD} {s : ℕ} {g : GSem nD τ sig} {u : Unit} (h : 0 < Oo c s g u) : ∃ i, g = cell (xp c) 5 i := by
  obtain ⟨i, hi⟩ := pos_sum (f := fun i => tallyAt (cell (xp c) 5 i) () NB) h; exact ⟨i, pos_tally hi⟩
theorem Ok_pos {c : Dev nD} {s : ℕ} {g : GSem nD τ sig} {u : Unit} (h : 0 < Ok c s g u) :
    ∃ i, g = cell (yp c) 3 i ∨ g = cell (yp c) 1 i := by
  obtain ⟨i, hi⟩ := pos_sum (f := fun i => tallyAt (cell (yp c) 3 i) () NE + tallyAt (cell (yp c) 1 i) () NB) h
  exact ⟨i, (pos_add hi).imp pos_tally pos_tally⟩
/-- What is owed at the barrier wait is owed to receive cells, above the barrier. -/
theorem O₂_pos {c : Dev nD} {g : GSem nD τ sig} {u : Unit} (h : 0 < O₂ c g u) : u ∈ L g ∧ 1 < lv g u := by
  rcases pos_add h with h | h
  · obtain ⟨i, rfl⟩ := Oo_pos h; exact ⟨by rw [L_tc]; exact Finset.mem_singleton_self _, by rw [lv_cell]; decide⟩
  · obtain ⟨i, rfl | rfl⟩ := Ok_pos h
    · exact ⟨by rw [L_tc]; exact Finset.mem_singleton_self _, by rw [lv_cell]; decide⟩
    · exact ⟨by rw [L_tc]; exact Finset.mem_singleton_self _, by rw [lv_cell]; decide⟩
theorem O₀_pos {c : Dev nD} {g : GSem nD τ sig} {u : Unit} (h : 0 < O₀ c g u) : u ∈ L g ∧ 0 < lv g u := by
  rcases pos_add h with h | h
  · rcases pos_add h with h | h
    · exact ⟨(O₂_pos h).1, by have := (O₂_pos h).2; omega⟩
    · obtain rfl := pos_tally h; exact ⟨by rw [L_tc]; exact Finset.mem_singleton_self _, Nat.one_pos⟩
  · obtain rfl := pos_tally h; exact ⟨by rw [L_tc]; exact Finset.mem_singleton_self _, Nat.one_pos⟩

theorem mayWait_bar : (levAts L lv : sProp 𝕄) ⊢ MayWait (c : Thread nD τ) (.reg barS) () (O₂ c) :=
  MayOwe.of_cut (L := L) (lev := lv) 1 (fun p hp => by rw [Finset.mem_singleton.mp hp, L_tc]; exact Finset.mem_singleton_self _)
    (fun g u hg => (O₂_pos hg).1) (fun p hp => by rw [Finset.mem_singleton.mp hp]; exact le_refl _) (fun g u hg => (O₂_pos hg).2)
/-- The waits of a head are at or below level 2, what is owed then at level 3. -/
theorem mayWait_cell (k : Fin 6) (hk : lvK k.val ≤ 2) (s : ℕ) : (levAts L lv : sProp 𝕄) ⊢ MayWait (c : Thread nD τ) (.dma (dS k i)) () (Oo c s) :=
  MayOwe.of_cut (L := L) (lev := lv) 2 (fun p hp => by rw [Finset.mem_singleton.mp hp, L_tc]; exact Finset.mem_singleton_self _)
    (fun g u hg => by obtain ⟨j, rfl⟩ := Oo_pos hg; rw [L_tc]; exact Finset.mem_singleton_self _)
    (fun p hp => by rw [Finset.mem_singleton.mp hp]; exact (lv_cell c i k ()).le.trans hk)
    (fun g u hg => by obtain ⟨j, rfl⟩ := Oo_pos hg; rw [lv_cell]; decide)

end Cert.KernelIdeal.Attn

end
-- ==== Proof.Steps.lean ====
/- The steps the body is made of: one addressed copy of a head's slice, one wait on a transfer cell, one head read, one head
   written, each from what it needs to what it leaves, and the rule that runs a piece for the eight heads. -/
module

public import proofs.«01_k».proof.Proof.Schedule

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

abbrev 𝒱₀ : Variants := Variants.none

/-- What device `c` must see hold after `p` runs. -/
abbrev wpc (c : Dev nD) {α : Type} (p : P F α) (Q : α → sProp 𝕄) : sProp 𝕄 :=
  wp frame (wpE (defs₀ (F := F)) 𝒱₀ (c : Thread nD τ) none) Set.univ p Q

variable (X : In F) (K : GSem nD τ sig → ℕ)

/-- The invariants of every cell, at the names `K` they were allocated at, and the levels. -/
def Inv : sProp 𝕄 :=
  iprop(levAts L lv ∗ (bigSep Finset.univ fun p : Dev nD × (Fin 6 × Fin 8) => cellInv ER (rd X) (K (cell p.1 p.2.1 p.2.2)) (cell p.1 p.2.1 p.2.2))
    ∗ bigSep Finset.univ fun c : Dev nD => cellInv ER (rd X) (K (barCell c)) (barCell c))

instance Inv_persistent : BI.Persistent (Inv X K) := by unfold Inv; infer_instance

theorem Inv_lev : Inv X K ⊢ (levAts L lv : sProp 𝕄) := by unfold Inv; iintro ⟨H, -, -⟩; iexact H
theorem Inv_cell (c : Dev nD) (k : Fin 6) (i : Fin 8) : Inv X K ⊢ cellInv ER (rd X) (K (cell c k i)) (cell c k i) := by
  have h : bigSep Finset.univ (fun p : Dev nD × (Fin 6 × Fin 8) => cellInv ER (rd X) (K (cell p.1 p.2.1 p.2.2)) (cell p.1 p.2.1 p.2.2))
      ⊢ cellInv ER (rd X) (K (cell c k i)) (cell c k i) := bigSep_elim (Finset.mem_univ (c, (k, i)))
  unfold Inv; iintro ⟨-, H, -⟩
  iapply h; iexact H
theorem Inv_bar (c : Dev nD) : Inv X K ⊢ cellInv ER (rd X) (K (barCell c)) (barCell c) := by
  have h : bigSep Finset.univ (fun c : Dev nD => cellInv ER (rd X) (K (barCell c)) (barCell c))
      ⊢ cellInv ER (rd X) (K (barCell c)) (barCell c) := bigSep_elim (Finset.mem_univ c)
  unfold Inv; iintro ⟨-, -, H⟩
  iapply h; iexact H

/-- What device `c` owes, whatever it may wait on. -/
abbrev own' (c : Dev nD) (O : CellTallies nD τ sig Unit) : sProp 𝕄 := iprop(∃ W, owes (c : Thread nD τ) O W)

/-- Head `i`'s slice of `src` copied to device `p`'s `dst`: the two duties are paid with the slices. -/
theorem wp_copy {e : EltTy} (src dst : Memref sig .tc .vmem S8x1024x128 e) (k₁ k₂ : Fin 6) (c n p : Dev nD) (hn : n = p) (i : Fin 8)
    (s₁ s₂ : DmaSem sig) (h₁ : s₁ = dS k₁ i) (h₂ : s₂ = dS k₂ i)
    {hsc : (hM dst i : Memref sig (Dev.tc n : Thread nD τ).2.kind .vmem S1024x128 e).view.ref.isScScratch = false}
    {hsrc : (hM src i).view.WordExact} {hdst : (hM dst i : Memref sig (Dev.tc n : Thread nD τ).2.kind .vmem S1024x128 e).view.WordExact}
    {hsem : DmaTarget.Typed .vmem (.dma s₂) (.remote (Dev.tc n : Thread nD τ) (hM dst i) (.dma s₁) hsc)}
    (q : PosShare TreeShare) (fs : Buf (Elt F) (src.view.loc (c : Thread nD τ))) {fd : Buf (Elt F) (dst.view.loc (p : Thread nD τ))}
    (N : ℕ) (hN : (hM dst i).view.dmaCredit = N) (hk₁ : amt k₁.val = N) (hk₂ : amt k₂.val = N)
    (O₀ O : CellTallies nD τ sig Unit) (hO : O₀ = O + tallyAt (cell p k₂ i) () N)
    (hp₁ : slc src i c q fs = pay X c i k₁.val)
    (hp₂ : ∀ fd, slc dst i p fullShare ((hM dst i).view.write (Elt F) fd ((hM src i).view.read (Elt F) fs) Finset.univ) = pay X p i k₂.val)
    {Q : PUnit → sProp 𝕄} :
    iprop(Inv X K ∗ slc src i c q fs ∗ slc dst i p fullShare fd ∗ own' c O₀
        ∗ dutyTok ER (cell c k₁ i) 0 false ∗ reached ER (cell c k₁ i) 0
        ∗ dutyTok ER (cell p k₂ i) 0 false ∗ reached ER (cell p k₂ i) 0
        ∗ ((cred (tallyAt (cell c k₁ i) () N) ∗ own' c O) -∗ Q ⟨⟩))
      ⊢ wpc c (Prog.lift (.enqueueDma (hM src i) (.remote (Dev.tc n : Thread nD τ) (hM dst i) (.dma s₁) hsc) (.dma s₂) hsrc hdst hsem)) Q := by
  subst hn h₁ h₂
  iintro ⟨#HI, Hs, Hd, ⟨%W, HO⟩, Ht₁, #Hr₁, Ht₂, #Hr₂, Hk⟩
  iapply (Rounds.wp_send_pointsTo 𝒱₀ ER (rd X) (c : Thread nD τ) none (c' := (n : Thread nD τ)) (src := hM src i) (dst := hM dst i)
      (sS := .dma (dS k₁ i)) (sem := .dma (dS k₂ i)) (κ₁ := K (cell c k₁ i)) (κ₂ := K (cell n k₂ i)) (q := q) (fs := fs) (fd := fd)
      (r₁ := 0) (r₂ := 0) (d₁ := false) (d₂ := false)
      (by rw [duties_cell]; exact Finset.mem_singleton_self _) (by rw [duties_cell]; exact Finset.mem_singleton_self _)
      () () N hN ((amount_cell X c i k₁ false).trans hk₁) ((amount_cell X n i k₂ false).trans hk₂) O hO (W := W)
      (by rw [payload_cell]; exact Entails.of_eq hp₁) (by rw [payload_cell]; exact Entails.of_eq (hp₂ fd))) $$ [Hs Hd HO Ht₁ Ht₂]
  · isplitr; · iapply (Inv_cell X K c k₁ i); iexact HI
    isplitr; · iapply (Inv_cell X K n k₂ i); iexact HI
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  rw [wp_ret]
  imodintro
  iapply Hk
  isplitl [Hc]; · iexact Hc
  iexists W; iexact HO

/-- A wait on a transfer cell: the round's payload comes with the credit. -/
theorem wp_await {e : EltTy} (a b : Memref sig .tc .vmem S8x1024x128 e) (k : Fin 6) (c : Dev nD) (i : Fin 8)
    (s : DmaSem sig) (h : s = dS k i) {ha : (hM a i).view.WordExact} {hb : (hM b i).view.WordExact}
    (N : ℕ) (hN : (hM b i).view.dmaCredit = N) (hk : amt k.val = N) (O : CellTallies nD τ sig Unit)
    (hm : (levAts L lv : sProp 𝕄) ⊢ MayWait (c : Thread nD τ) (.dma (dS k i)) () O) (Pl : sProp 𝕄) (hP : pay X c i k.val = Pl) {Q : PUnit → sProp 𝕄} :
    iprop(Inv X K ∗ cred (tallyAt (cell c k i) () N) ∗ atPos ER (cell c k i) 0 ∅ 0 ∗ own' c O
        ∗ ((own' c O ∗ atPos ER (cell c k i) 1 ∅ 0 ∗ Pl) -∗ Q ⟨⟩))
      ⊢ wpc c (Prog.lift (.waitDma2 s (hM a i) (hM b i) ha hb)) Q := by
  subst h hN hP
  iintro ⟨#HI, Hc, Hat, ⟨%W, HO⟩, Hk⟩
  iapply (Rounds.wp_wait_rest_token 𝒱₀ ER (rd X) (c : Thread nD τ) none (κ := K (cell c k i))
      (wpE_waitDma2_eq 𝒱₀ (c : Thread nD τ) none Set.univ) (Set.mem_univ _) () (O := O) (W := W) (R := 0) (m := 0) (T := ∅)
      ((Nat.zero_add _).trans (hk.symm.trans (expect_cell X c i k).symm))) $$ [Hc Hat HO]
  · isplitr; · iapply (Inv_cell X K c k i); iexact HI
    isplitl [Hc]; · iexact Hc
    isplitl [HO]; · iexact HO
    isplitr; · iapply hm; iapply (Inv_lev X K); iexact HI
    iexact Hat
  iintro ⟨HO, Hat, -, Hpay⟩
  rw [wp_ret]
  imodintro
  iapply Hk
  isplitl [HO]; · iexists _; iexact HO
  isplitl [Hat]; · iexact Hat
  iapply (Entails.of_eq (rest_cell X c i k)); iexact Hpay

/-- A head of a buffer held slice by slice, read. -/
theorem wp_loadS {e : EltTy} (M : Memref sig .tc .vmem S8x1024x128 e) (c : Dev nD) (i : Fin 8) {q : PosShare TreeShare}
    (f : Buf (Elt F) (M.view.loc (c : Thread nD τ))) {Q : Vec F S1x1024x128 e → sProp 𝕄} :
    iprop(slc M i c q f ∗ (slc M i c q f -∗ Q (M.view.readAt (Elt F) (hR i).toLoadRect f))) ⊢ wpc c (loadH M i) Q := by
  iintro ⟨Hs, Hk⟩
  unfold loadH
  iapply (wp_load 𝒱₀ (c : Thread nD τ) none Set.univ (m := M) (S := (hM M i).view.set) (by rw [set_map]; exact Finset.Subset.refl _)) $$ Hs
  iintro Hs
  rw [wp_ret]; imodintro
  iapply Hk; iexact Hs
/-- A head of a buffer held whole, read. -/
theorem wp_loadW {e : EltTy} (M : Memref sig .tc .vmem S8x1024x128 e) (c : Dev nD) (i : Fin 8) {q : PosShare TreeShare}
    (f : Buf (Elt F) (M.view.loc (c : Thread nD τ))) {Q : Vec F S1x1024x128 e → sProp 𝕄} :
    iprop((M.view.loc (c : Thread nD τ) ↦{q} f) ∗ ((M.view.loc (c : Thread nD τ) ↦{q} f) -∗ Q (M.view.readAt (Elt F) (hR i).toLoadRect f)))
      ⊢ wpc c (loadH M i) Q := by
  iintro ⟨Hs, Hk⟩
  unfold loadH
  iapply (wp_load 𝒱₀ (c : Thread nD τ) none Set.univ (m := M) (Finset.subset_univ _)) $$ Hs
  iintro Hs
  rw [wp_ret]; imodintro
  iapply Hk; iexact Hs
/-- A head of the queries read. -/
theorem wp_loadQ (c : Dev nD) (i : Fin 8) {q : PosShare TreeShare}
    (f : S1024x8x128.Idx → Elt F .bf16) {Q : Vec F S1024x1x128 .bf16 → sProp 𝕄} :
    iprop((qM.view.loc (c : Thread nD τ) ↦{q} f) ∗ ((qM.view.loc (c : Thread nD τ) ↦{q} f) -∗ Q (qM.view.readAt (Elt F) (qR i).toLoadRect f)))
      ⊢ wpc c (loadQ i) Q := by
  iintro ⟨Hs, Hk⟩
  unfold loadQ
  iapply (wp_load 𝒱₀ (c : Thread nD τ) none Set.univ (m := qM) (Finset.subset_univ _)) $$ Hs
  iintro Hs
  rw [wp_ret]; imodintro
  iapply Hk; iexact Hs
/-- Head `j` of the result written. -/
theorem wp_putO (c : Dev nD) (j : Fin 16) (x : FVec F S1024x1x128 .f32) (f : S1024x16x128.Idx → Elt F .f32) {Q : PUnit → sProp 𝕄} :
    iprop((oM.view.loc (c : Thread nD τ) ↦{fullShare} f)
        ∗ ((oM.view.loc (c : Thread nD τ) ↦{fullShare} (oM.access (oR j)).write (Elt F) f x Finset.univ) -∗ Q ⟨⟩))
      ⊢ wpc c (putO j x) Q := by
  iintro ⟨Hs, Hk⟩
  unfold putO wpc
  rw [wp_bind]
  iapply (wp_load 𝒱₀ (c : Thread nD τ) none Set.univ (m := oM) (Finset.subset_univ _)) $$ Hs
  iintro Hs
  rw [wp_ret]; imodintro
  iapply (wp_store 𝒱₀ (c : Thread nD τ) none Set.univ (m := oM) (r := oR j) (Mk := Finset.univ) (Finset.subset_univ _)) $$ Hs
  iintro Hs
  rw [wp_ret]; imodintro
  iapply Hk; iexact Hs
/-- Head `i` of the outgoing buffer written, to be what `g` holds there. -/
theorem wp_putB (c : Dev nD) (i : Fin 8) (x : FVec F S1x1024x128 .bf16) (f g : S8x1024x128.Idx → Elt F .bf16)
    (hg : ∀ y, y 0 = i → g y = x (inH y)) {Q : PUnit → sProp 𝕄} :
    iprop(slc obM i c fullShare f ∗ (slc obM i c fullShare g -∗ Q ⟨⟩)) ⊢ wpc c (putB i x) Q := by
  iintro ⟨Hs, Hk⟩
  unfold putB wpc
  rw [wp_bind]
  iapply (wp_load 𝒱₀ (c : Thread nD τ) none Set.univ (m := obM) (S := (hM obM i).view.set) (by rw [set_map]; exact Finset.Subset.refl _)) $$ Hs
  iintro Hs
  rw [wp_ret]; imodintro
  iapply (wp_store 𝒱₀ (c : Thread nD τ) none Set.univ (m := obM) (r := hR i) (Mk := Finset.univ) (S := (hM obM i).view.set)
    (by rw [set_hM]; exact Finset.Subset.refl _)) $$ Hs
  iintro Hs
  rw [wp_ret]; imodintro
  iapply Hk
  iapply (Entails.of_eq (write_ob i c fullShare f x g hg)); iexact Hs

theorem eight (B : Fin 8 → sProp 𝕄) : bigSep Finset.univ B = iprop(B 0 ∗ B 1 ∗ B 2 ∗ B 3 ∗ B 4 ∗ B 5 ∗ B 6 ∗ B 7) := by
  rw [bigSep_univ_eq_bigSepL [0, 1, 2, 3, 4, 5, 6, 7] (by decide) (by decide)]
  simp only [bigSepL_cons_cons, bigSepL_singleton]
  rfl

/-- A piece run for the eight heads: each turns its `B` into its `A` and steps the rest from `G i` to `G (i + 1)`. -/
theorem wp_heads (R : sProp 𝕄) [BI.Persistent R] (A B : Fin 8 → sProp 𝕄) (G : ℕ → sProp 𝕄) (c : Dev nD) (p : Fin 8 → P F PUnit)
    (h : ∀ (i : Fin 8) (s t : ℕ) (_ : i.val = s) (_ : i.val + 1 = t) (Q : PUnit → sProp 𝕄), iprop(R ∗ B i ∗ G s ∗ ((A i ∗ G t) -∗ Q ⟨⟩)) ⊢ wpc c (p i) Q)
    {Q : PUnit → sProp 𝕄} :
    iprop(R ∗ bigSep Finset.univ B ∗ G 0 ∗ ((bigSep Finset.univ A ∗ G 8) -∗ Q ⟨⟩)) ⊢ wpc c (heads p) Q := by
  rw [eight A, eight B]
  unfold heads
  simp only [wpc, wp_bind]
  iintro ⟨#HR, ⟨H0, H1, H2, H3, H4, H5, H6, H7⟩, HG, Hk⟩
  iapply (h 0 0 1 rfl rfl)
  isplitr; · iexact HR
  isplitl [H0]; · iexact H0
  isplitl [HG]; · iexact HG
  iintro ⟨H0, HG⟩
  iapply (h 1 1 2 rfl rfl)
  isplitr; · iexact HR
  isplitl [H1]; · iexact H1
  isplitl [HG]; · iexact HG
  iintro ⟨H1, HG⟩
  iapply (h 2 2 3 rfl rfl)
  isplitr; · iexact HR
  isplitl [H2]; · iexact H2
  isplitl [HG]; · iexact HG
  iintro ⟨H2, HG⟩
  iapply (h 3 3 4 rfl rfl)
  isplitr; · iexact HR
  isplitl [H3]; · iexact H3
  isplitl [HG]; · iexact HG
  iintro ⟨H3, HG⟩
  iapply (h 4 4 5 rfl rfl)
  isplitr; · iexact HR
  isplitl [H4]; · iexact H4
  isplitl [HG]; · iexact HG
  iintro ⟨H4, HG⟩
  iapply (h 5 5 6 rfl rfl)
  isplitr; · iexact HR
  isplitl [H5]; · iexact H5
  isplitl [HG]; · iexact HG
  iintro ⟨H5, HG⟩
  iapply (h 6 6 7 rfl rfl)
  isplitr; · iexact HR
  isplitl [H6]; · iexact H6
  isplitl [HG]; · iexact HG
  iintro ⟨H6, HG⟩
  iapply (h 7 7 8 rfl rfl)
  isplitr; · iexact HR
  isplitl [H7]; · iexact H7
  isplitl [HG]; · iexact HG
  iintro ⟨H7, HG⟩
  iapply Hk
  isplitr [HG]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact HG

end Cert.KernelIdeal.Attn

end
-- ==== Proof.Phases.lean ====
/- The four phases of a column's program, each for a symbolic head, and the whole column. -/
module

public import proofs.«01_k».proof.Proof.Steps

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (X : In F) (K : GSem nD τ sig → ℕ) (c : Dev nD) (i : Fin 8)

/-- The right to pay a send cell of device `c`, and to pay a receive cell of device `p`. -/
abbrev paySend (k : Fin 6) : sProp 𝕄 := iprop(dutyTok ER (cell c k i) 0 false ∗ reached ER (cell c k i) 0)
abbrev payRecv (k : Fin 6) (p : Dev nD) : sProp 𝕄 := dutyTok ER (cell p k i) 0 false
/-- A transfer cell of device `c` to be awaited, and awaited. -/
abbrev due (k : Fin 6) (N : ℕ) : sProp 𝕄 := iprop(cred (tallyAt (cell c k i) () N) ∗ atPos ER (cell c k i) 0 ∅ 0)
abbrev done (k : Fin 6) : sProp 𝕄 := atPos ER (cell c k i) 1 ∅ 0

/-! ## Keys and values on their way -/

def startB : sProp 𝕄 :=
  iprop(slc kM i c fullShare.left (X.k c) ∗ slc wM i c fullShare (X.w c) ∗ (dst (F := F) koM 1 (yp c) i ∗ dst (F := F) voM 3 (yp c) i)
    ∗ paySend (F := F) c i 0 ∗ payRecv (F := F) i 1 (yp c) ∗ paySend (F := F) c i 2 ∗ payRecv (F := F) i 3 (yp c))
def startA : sProp 𝕄 := iprop(cred (tallyAt (cell c 0 i) () NB) ∗ cred (tallyAt (cell c 2 i) () NE))
def startG (s : ℕ) : sProp 𝕄 := own' c (Oo c 0 + Ok c s)

theorem run_start (n : Dev nD) (hn : n = yp c) (s t : ℕ) (hs : i.val = s) (ht : i.val + 1 = t) (Q : PUnit → sProp 𝕄) :
    iprop(Inv X K ∗ startB X c i ∗ startG c s ∗ ((startA c i ∗ startG c t) -∗ Q ⟨⟩)) ⊢ wpc c (start n i) Q := by
  subst hs ht
  unfold startB startA startG start wpc
  rw [wp_bind]
  iintro ⟨#HI, ⟨Hk, Hw, ⟨⟨⟨%fk, Hko⟩, #Hrk⟩, ⟨%fv, Hvo⟩, #Hrv⟩, ⟨Ht0, #Hr0⟩, Ht1, ⟨Ht2, #Hr2⟩, Ht3⟩, HO, HQ⟩
  iapply (wp_copy X K kM koM 0 1 c n (yp c) hn i _ _ (hS4 i) (hS5 i) fullShare.left (X.k c) NB rfl (if_neg (by decide)) (if_neg (by decide))
    (Oo c 0 + Ok c i.val) (Oo c 0 + (Ok c (i.val + 1) + tallyAt (cell (yp c) 3 i) () NE)) (by rw [Ok_step c i, ← add_assoc])
    rfl (fun fd => (transfer_kko i c (yp c) fullShare fd (X.k c)).trans (by show _ = slc koM i (yp c) fullShare (X.k (yp (yp c))); rw [yp_yp])))
  isplitr; · iexact HI
  isplitl [Hk]; · iexact Hk
  isplitl [Hko]; · iexact Hko
  isplitl [HO]; · iexact HO
  isplitl [Ht0]; · iexact Ht0
  isplitr; · iexact Hr0
  isplitl [Ht1]; · iexact Ht1
  isplitr; · iexact Hrk
  iintro ⟨Hc0, HO⟩
  iapply (wp_copy X K wM voM 2 3 c n (yp c) hn i _ _ (hS6 i) (hS7 i) fullShare (X.w c) NE rfl (if_pos (by decide)) (if_pos (by decide))
    (Oo c 0 + (Ok c (i.val + 1) + tallyAt (cell (yp c) 3 i) () NE)) (Oo c 0 + Ok c (i.val + 1)) (add_assoc _ _ _).symm
    rfl (fun fd => (transfer_wvo i (yp c) fullShare fd (X.w c)).trans (by show _ = slc voM i (yp c) fullShare (X.w (yp (yp c))); rw [yp_yp])))
  isplitr; · iexact HI
  isplitl [Hw]; · iexact Hw
  isplitl [Hvo]; · iexact Hvo
  isplitl [HO]; · iexact HO
  isplitl [Ht2]; · iexact Ht2
  isplitr; · iexact Hr2
  isplitl [Ht3]; · iexact Ht3
  isplitr; · iexact Hrv
  iintro ⟨Hc2, HO⟩
  iapply HQ
  isplitr [HO]
  · isplitl [Hc0]; · iexact Hc0
    iexact Hc2
  iexact HO

/-! ## A head computed -/

def headB : sProp 𝕄 :=
  iprop(due (F := F) c i 0 NB ∗ due (F := F) c i 1 NB ∗ due (F := F) c i 2 NE ∗ due (F := F) c i 3 NE
    ∗ (∃ f, slc (F := F) obM i c fullShare f) ∗ dst (F := F) oiM 5 (xp c) i ∗ paySend (F := F) c i 4 ∗ payRecv (F := F) i 5 (xp c))
def headA : sProp 𝕄 :=
  iprop((done (F := F) c i 0 ∗ done (F := F) c i 1 ∗ done (F := F) c i 2 ∗ done (F := F) c i 3)
    ∗ slc kM i c fullShare.left (X.k c) ∗ slc koM i c fullShare (X.k (yp c)) ∗ slc wM i c fullShare (X.w c) ∗ slc voM i c fullShare (X.w (yp c))
    ∗ cred (tallyAt (cell c 4 i) () NB))
/-- The buffers the heads read whole: the queries, the values, and of the keys the half share not travelling. -/
def whole : sProp 𝕄 :=
  iprop((qM.view.loc (c : Thread nD τ) ↦{fullShare} X.q c) ∗ (vM.view.loc (c : Thread nD τ) ↦{fullShare} X.v c)
    ∗ (kM.view.loc (c : Thread nD τ) ↦{fullShare.right} X.k c))
/-- The result with its first `s` heads written. -/
def res (s : ℕ) : sProp 𝕄 := iprop(∃ f : S1024x16x128.Idx → Elt F .f32, ⌜Holds X c s f⌝ ∗ (oM.view.loc (c : Thread nD τ) ↦{fullShare} f))
def headG (s : ℕ) : sProp 𝕄 := iprop(whole X c ∗ res X c s ∗ own' c (Oo c s))

set_option maxHeartbeats 800000 in
theorem run_head (n : Dev nD) (hn : n = xp c) (j : Fin 8 → Fin 16) (hj : j = mine c) (s t : ℕ) (hs : i.val = s) (ht : i.val + 1 = t)
    (Q : PUnit → sProp 𝕄) :
    iprop(Inv X K ∗ headB c i ∗ headG X c s ∗ ((headA X c i ∗ headG X c t) -∗ Q ⟨⟩)) ⊢ wpc c (head n j i) Q := by
  subst hs ht hj
  unfold headB headA headG whole res head wpc
  simp only [wp_bind]
  iintro ⟨#HI, ⟨⟨Hc0, Hp0⟩, ⟨Hc1, Hp1⟩, ⟨Hc2, Hp2⟩, ⟨Hc3, Hp3⟩, ⟨%fb, Hob⟩, ⟨⟨%fi, Hoi⟩, #Hri⟩, ⟨Ht4, #Hr4⟩, Ht5⟩,
    ⟨⟨Hq, Hv, Hk⟩, ⟨%fo, %hfo, Ho⟩, HO⟩, HQ⟩
  iapply (wp_loadQ c i (X.q c))
  isplitl [Hq]; · iexact Hq
  iintro Hq
  iapply (wp_loadW kM c i (X.k c))
  isplitl [Hk]; · iexact Hk
  iintro Hk
  iapply (wp_loadW vM c i (X.v c))
  isplitl [Hv]; · iexact Hv
  iintro Hv
  iapply (wp_await X K koM kM 0 c i _ (hS4 i) NB rfl (if_neg (by decide)) (Oo c i.val) (mayWait_cell c i 0 (by decide) _)
    (slc kM i c fullShare.left (X.k c)) rfl)
  isplitr; · iexact HI
  isplitl [Hc0]; · iexact Hc0
  isplitl [Hp0]; · iexact Hp0
  isplitl [HO]; · iexact HO
  iintro ⟨HO, Hp0, Hks⟩
  iapply (wp_await X K kM koM 1 c i _ (hS5 i) NB rfl (if_neg (by decide)) (Oo c i.val) (mayWait_cell c i 1 (by decide) _)
    (slc koM i c fullShare (X.k (yp c))) rfl)
  isplitr; · iexact HI
  isplitl [Hc1]; · iexact Hc1
  isplitl [Hp1]; · iexact Hp1
  isplitl [HO]; · iexact HO
  iintro ⟨HO, Hp1, Hko⟩
  iapply (wp_loadS koM c i (X.k (yp c)))
  isplitl [Hko]; · iexact Hko
  iintro Hko
  iapply (wp_await X K voM wM 2 c i _ (hS6 i) NE rfl (if_pos (by decide)) (Oo c i.val) (mayWait_cell c i 2 (by decide) _)
    (slc wM i c fullShare (X.w c)) rfl)
  isplitr; · iexact HI
  isplitl [Hc2]; · iexact Hc2
  isplitl [Hp2]; · iexact Hp2
  isplitl [HO]; · iexact HO
  iintro ⟨HO, Hp2, Hws⟩
  iapply (wp_await X K wM voM 3 c i _ (hS7 i) NE rfl (if_pos (by decide)) (Oo c i.val) (mayWait_cell c i 3 (by decide) _)
    (slc voM i c fullShare (X.w (yp c))) rfl)
  isplitr; · iexact HI
  isplitl [Hc3]; · iexact Hc3
  isplitl [Hp3]; · iexact Hp3
  isplitl [HO]; · iexact HO
  iintro ⟨HO, Hp3, Hvo⟩
  iapply (wp_loadS voM c i (X.w (yp c)))
  isplitl [Hvo]; · iexact Hvo
  iintro Hvo
  iapply (wp_putO c (mine c i) _ fo)
  isplitl [Ho]; · iexact Ho
  iintro Ho
  iapply (wp_putB c i _ fb (ob X c) (fun y hy => by unfold ob ship; rw [hy]))
  isplitl [Hob]; · iexact Hob
  iintro Hob
  iapply (wp_copy X K obM oiM 4 5 c n (xp c) hn i _ _ (hS8 i) (hS9 i) fullShare (ob X c) NB rfl (if_neg (by decide)) (if_neg (by decide))
    (Oo c i.val) (Oo c (i.val + 1)) (Oo_step c i)
    rfl (fun fd => (transfer_oboi i (xp c) fullShare fd (ob X c)).trans (by show _ = slc oiM i (xp c) fullShare (ob X (xp (xp c))); rw [xp_xp])))
  isplitr; · iexact HI
  isplitl [Hob]; · iexact Hob
  isplitl [Hoi]; · iexact Hoi
  isplitl [HO]; · iexact HO
  isplitl [Ht4]; · iexact Ht4
  isplitr; · iexact Hr4
  isplitl [Ht5]; · iexact Ht5
  isplitr; · iexact Hri
  iintro ⟨Hc4, HO⟩
  iapply HQ
  isplitr [Hq Hv Hk Ho HO]
  · isplitl [Hp0 Hp1 Hp2 Hp3]
    · isplitl [Hp0]; · iexact Hp0
      isplitl [Hp1]; · iexact Hp1
      isplitl [Hp2]; · iexact Hp2
      iexact Hp3
    isplitl [Hks]; · iexact Hks
    isplitl [Hko]; · iexact Hko
    isplitl [Hws]; · iexact Hws
    isplitl [Hvo]; · iexact Hvo
    iexact Hc4
  isplitl [Hq Hv Hk]
  · isplitl [Hq]; · iexact Hq
    isplitl [Hv]; · iexact Hv
    iexact Hk
  isplitl [Ho]
  · iexists _
    isplitr
    · ipureintro; exact holds_mine X c i hfo
    iexact Ho
  iexact HO

/-! ## A head received, and a shipment's end -/

def recvB : sProp 𝕄 := due (F := F) c i 5 NB
def recvA : sProp 𝕄 := iprop(done (F := F) c i 5 ∗ slc oiM i c fullShare (ob X (xp c)))
def recvG (s : ℕ) : sProp 𝕄 := iprop(res X c (8 + s) ∗ own' c 0)

theorem run_recv (j : Fin 8 → Fin 16) (hj : j = his c) (s t : ℕ) (hs : i.val = s) (ht : i.val + 1 = t) (Q : PUnit → sProp 𝕄) :
    iprop(Inv X K ∗ recvB c i ∗ recvG X c s ∗ ((recvA X c i ∗ recvG X c t) -∗ Q ⟨⟩)) ⊢ wpc c (recv j i) Q := by
  subst hs ht hj
  unfold recvB recvA recvG res recv wpc
  simp only [wp_bind]
  iintro ⟨#HI, ⟨Hc, Hp⟩, ⟨⟨%fo, %hfo, Ho⟩, HO⟩, HQ⟩
  iapply (wp_await X K obM oiM 5 c i _ (hS9 i) NB rfl (if_neg (by decide)) 0 (by rw [MayWait_zero]; iintro -; iempintro)
    (slc oiM i c fullShare (ob X (xp c))) rfl)
  isplitr; · iexact HI
  isplitl [Hc]; · iexact Hc
  isplitl [Hp]; · iexact Hp
  isplitl [HO]; · iexact HO
  iintro ⟨HO, Hp, Hoi⟩
  iapply (wp_loadS oiM c i (ob X (xp c)))
  isplitl [Hoi]; · iexact Hoi
  iintro Hoi
  iapply (wp_putO c (his c i) _ fo)
  isplitl [Ho]; · iexact Ho
  iintro Ho
  iapply HQ
  isplitr [Ho HO]
  · isplitl [Hp]; · iexact Hp
    iexact Hoi
  isplitl [Ho]
  · iexists _
    isplitr
    · ipureintro; exact holds_his X c i hfo
    iexact Ho
  iexact HO

def sentB : sProp 𝕄 := due (F := F) c i 4 NB
def sentA : sProp 𝕄 := iprop(done (F := F) c i 4 ∗ slc obM i c fullShare (ob X c))
def sentG (_ : ℕ) : sProp 𝕄 := own' (F := F) c 0

theorem run_sent (s t : ℕ) (_ : i.val = s) (_ : i.val + 1 = t) (Q : PUnit → sProp 𝕄) :
    iprop(Inv X K ∗ sentB c i ∗ sentG c s ∗ ((sentA X c i ∗ sentG c t) -∗ Q ⟨⟩)) ⊢ wpc c (sent i) Q := by
  unfold sentB sentA sentG sent
  iintro ⟨#HI, ⟨Hc, Hp⟩, HO, HQ⟩
  iapply (wp_await X K oiM obM 4 c i _ (hS8 i) NB rfl (if_neg (by decide)) 0 (by rw [MayWait_zero]; iintro -; iempintro)
    (slc obM i c fullShare (ob X c)) rfl)
  isplitr; · iexact HI
  isplitl [Hc]; · iexact Hc
  isplitl [Hp]; · iexact Hp
  isplitl [HO]; · iexact HO
  iintro ⟨HO, Hp, Hob⟩
  iapply HQ
  isplitr [HO]
  · isplitl [Hp]; · iexact Hp
    iexact Hob
  iexact HO

end Cert.KernelIdeal.Attn

end
-- ==== Proof.Body.lean ====
/- The body's run on a device, symbolic: the four phases composed, then the barrier before them and the cells closed after. -/
module

public import proofs.«01_k».proof.Proof.Phases

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (X : In F) (K : GSem nD τ sig → ℕ) (c : Dev nD) (i : Fin 8)

abbrev all8 (B : Fin 8 → sProp 𝕄) : sProp 𝕄 := bigSep Finset.univ B

/-- A cell of device `c`, nothing yet awaited, and that it may be credited. -/
abbrev fresh (k : Fin 6) : sProp 𝕄 := iprop(atPos ER (cell c k i) 0 ∅ 0 ∗ reached ER (cell c k i) 0)

/-! ## What a head of the body starts from, and how it is dealt to the phases -/

/-- For the copies of a head's keys and values, short of the peer's buffers. -/
def startR : sProp 𝕄 :=
  iprop(slc kM i c fullShare.left (X.k c) ∗ slc wM i c fullShare (X.w c)
    ∗ paySend (F := F) c i 0 ∗ payRecv (F := F) i 1 (yp c) ∗ paySend (F := F) c i 2 ∗ payRecv (F := F) i 3 (yp c))
/-- For a head's attention, short of the peer's buffer and of what the copies leave. -/
def headR : sProp 𝕄 :=
  iprop(atPos ER (cell c 0 i) 0 ∅ 0 ∗ due (F := F) c i 1 NB ∗ atPos ER (cell c 2 i) 0 ∅ 0 ∗ due (F := F) c i 3 NE
    ∗ (∃ f, slc (F := F) obM i c fullShare f) ∗ paySend (F := F) c i 4 ∗ payRecv (F := F) i 5 (xp c))
/-- For the end of a head's shipment, short of what sending it leaves. -/
def sentR : sProp 𝕄 := atPos ER (cell c 4 i) 0 ∅ 0

theorem startB_intro : iprop(all8 (startR X c) ∗ barPayY (F := F) c) ⊢ all8 (startB X c) := by
  unfold all8 barPayY
  rw [← bigSep_sep']
  have h : ∀ i, iprop(startR X c i ∗ (dst (F := F) koM 1 (yp c) i ∗ dst (F := F) voM 3 (yp c) i)) ⊢ startB X c i := fun i => by
   unfold startR startB
   iintro ⟨⟨Hk, Hw, H0, H1, H2, H3⟩, Hd⟩
   isplitl [Hk]; · iexact Hk
   isplitl [Hw]; · iexact Hw
   isplitl [Hd]; · iexact Hd
   isplitl [H0]; · iexact H0
   isplitl [H1]; · iexact H1
   isplitl [H2]; · iexact H2
   iexact H3
  exact bigSep_mono fun i _ => h i

theorem headB_intro : iprop(all8 (startA (F := F) c) ∗ all8 (headR (F := F) c) ∗ barPayX (F := F) c) ⊢ all8 (headB (F := F) c) := by
  unfold all8 barPayX
  rw [← bigSep_sep', ← bigSep_sep']
  have h : ∀ i, iprop(startA (F := F) c i ∗ headR (F := F) c i ∗ dst (F := F) oiM 5 (xp c) i) ⊢ headB (F := F) c i := fun i => by
   unfold startA headR headB
   iintro ⟨⟨Hc0, Hc2⟩, ⟨H0, H1, H2, H3, Hob, H4, H5⟩, Hd⟩
   isplitl [Hc0 H0]
   · isplitl [Hc0]; · iexact Hc0
     iexact H0
   isplitl [H1]; · iexact H1
   isplitl [Hc2 H2]
   · isplitl [Hc2]; · iexact Hc2
     iexact H2
   isplitl [H3]; · iexact H3
   isplitl [Hob]; · iexact Hob
   isplitl [Hd]; · iexact Hd
   isplitl [H4]; · iexact H4
   iexact H5
  exact bigSep_mono fun i _ => h i

/-- What a head's attention leaves behind but the credit of its shipment. -/
def headD : sProp 𝕄 :=
  iprop((done (F := F) c i 0 ∗ done (F := F) c i 1 ∗ done (F := F) c i 2 ∗ done (F := F) c i 3)
    ∗ slc kM i c fullShare.left (X.k c) ∗ slc koM i c fullShare (X.k (yp c)) ∗ slc wM i c fullShare (X.w c) ∗ slc voM i c fullShare (X.w (yp c)))

theorem sentB_intro : iprop(all8 (headA X c) ∗ all8 (sentR (F := F) c)) ⊢ iprop(all8 (headD X c) ∗ all8 (sentB (F := F) c)) := by
  unfold all8
  rw [← bigSep_sep', ← bigSep_sep']
  have h : ∀ i, iprop(headA X c i ∗ sentR (F := F) c i) ⊢ iprop(headD X c i ∗ sentB (F := F) c i) := fun i => by
   unfold headA headD sentR sentB
   iintro ⟨⟨Hd, Hk, Hko, Hw, Hvo, Hc⟩, Hp⟩
   isplitl [Hd Hk Hko Hw Hvo]
   · isplitl [Hd]; · iexact Hd
     isplitl [Hk]; · iexact Hk
     isplitl [Hko]; · iexact Hko
     isplitl [Hw]; · iexact Hw
     iexact Hvo
   isplitl [Hc]; · iexact Hc
   iexact Hp
  exact bigSep_mono fun i _ => h i

/-! ## A column -/

/-- What a column leaves. -/
def colPost : sProp 𝕄 :=
  iprop(all8 (headD X c) ∗ all8 (recvA X c) ∗ all8 (sentA X c) ∗ whole X c ∗ (oM.view.loc (c : Thread nD τ) ↦{fullShare} out X c) ∗ own' (F := F) c 0)

theorem run_col (n n' : Dev nD) (hn : n = yp c) (hn' : n' = xp c) (j j' : Fin 8 → Fin 16) (hj : j = mine c) (hj' : j' = his c) (Q : PUnit → sProp 𝕄) :
    iprop(Inv X K ∗ all8 (startB X c) ∗ all8 (headR (F := F) c) ∗ barPayX (F := F) c ∗ all8 (recvB (F := F) c) ∗ all8 (sentR (F := F) c) ∗ whole X c
        ∗ (∃ f, oM.view.loc (c : Thread nD τ) ↦{fullShare} f) ∗ own' (F := F) c (O₂ c) ∗ (colPost X c -∗ Q ⟨⟩))
      ⊢ wpc c (col n n' j j') Q := by
  unfold col colPost wpc
  simp only [wp_bind]
  iintro ⟨#HI, HS, HH, HX, HR, HE, HW, ⟨%f, Ho⟩, HO, HQ⟩
  iapply (wp_heads (Inv X K) (startA c) (startB X c) (startG c) c (start n) (fun i s t hs ht Q => run_start X K c i n hn s t hs ht Q))
  isplitr; · iexact HI
  isplitl [HS]; · iexact HS
  isplitl [HO]; · unfold startG; iexact HO
  iintro ⟨HA, HO⟩
  ihave HB := (headB_intro c) $$ [HA HH HX]
  · isplitl [HA]; · iexact HA
    isplitl [HH]; · iexact HH
    iexact HX
  iapply (wp_heads (Inv X K) (headA X c) (headB c) (headG X c) c (head n' j) (fun i s t hs ht Q => run_head X K c i n' hn' j hj s t hs ht Q))
  isplitr; · iexact HI
  isplitl [HB]; · iexact HB
  isplitl [HW Ho HO]
  · unfold headG
    isplitl [HW]; · iexact HW
    isplitl [Ho]
    · unfold res
      iexists f
      isplitr; · ipureintro; exact holds_zero X c f
      iexact Ho
    unfold startG
    rw [Ok_end, add_zero]
    iexact HO
  iintro ⟨HA, HG⟩
  unfold headG
  icases HG with ⟨HW, Ho, HO⟩
  ihave HB := (sentB_intro X c) $$ [HA HE]
  · isplitl [HA]; · iexact HA
    iexact HE
  icases HB with ⟨HD, HE⟩
  iapply (wp_heads (Inv X K) (recvA X c) (recvB c) (recvG X c) c (recv j') (fun i s t hs ht Q => run_recv X K c i j' hj' s t hs ht Q))
  isplitr; · iexact HI
  isplitl [HR]; · iexact HR
  isplitl [Ho HO]
  · unfold recvG
    isplitl [Ho]; · iexact Ho
    rw [Oo_end]
    iexact HO
  iintro ⟨HA, HG⟩
  unfold recvG
  icases HG with ⟨Ho, HO⟩
  iapply (wp_heads (Inv X K) (sentA X c) (sentB c) (sentG c) c sent (fun i s t hs ht Q => run_sent X K c i s t hs ht Q))
  isplitr; · iexact HI
  isplitl [HE]; · iexact HE
  isplitl [HO]; · unfold sentG; iexact HO
  iintro ⟨HE, HO⟩
  unfold sentG res
  icases Ho with ⟨%g, %hg, Ho⟩
  obtain rfl := holds_all X c hg
  iapply HQ
  isplitl [HD]; · iexact HD
  isplitl [HA]; · iexact HA
  isplitl [HE]; · iexact HE
  isplitl [HW]; · iexact HW
  isplitl [Ho]; · iexact Ho
  iexact HO

/-! ## The whole body -/

/-- The buffers a device lends its row peer and its column peer. -/
abbrev giveY : sProp 𝕄 := all8 fun i => iprop(dst (F := F) koM 1 c i ∗ dst (F := F) voM 3 c i)
abbrev giveX : sProp 𝕄 := all8 fun i => dst (F := F) oiM 5 c i

/-- What the body starts from: the barrier's ghost state, and the heads' shares. -/
def bodyA : sProp 𝕄 :=
  iprop((atPos ER (barCell c) 0 ∅ 0 ∗ cred (tallyAt (barCell c) () 2) ∗ dutyTok ER (barCell (yp c)) 0 false ∗ reached ER (barCell (yp c)) 0
      ∗ dutyTok ER (barCell (xp c)) 0 true ∗ reached ER (barCell (xp c)) 0)
    ∗ giveY (F := F) c ∗ giveX (F := F) c ∗ all8 (startR X c) ∗ all8 (headR (F := F) c) ∗ all8 (recvB (F := F) c) ∗ all8 (sentR (F := F) c)
    ∗ whole X c ∗ (∃ f, oM.view.loc (c : Thread nD τ) ↦{fullShare} f) ∗ own' (F := F) c (O₀ c))

theorem barPayY_yp : (rd X).payload (barCell (yp c)) 0 false = giveY (F := F) c := by
  show barPayY (F := F) (yp c) = _
  unfold barPayY; rw [yp_yp]
theorem barPayX_xp : (rd X).payload (barCell (xp c)) 0 true = giveX (F := F) c := by
  show barPayX (F := F) (xp c) = _
  unfold barPayX; rw [xp_xp]

/-- The signals and the wait of the barrier. -/
theorem run_barrier (n n' : Dev nD) (hn : n = yp c) (hn' : n' = xp c) {α : Type} (p : P F α) (Q : α → sProp 𝕄) :
    iprop(Inv X K ∗ bodyA X c
        ∗ ((atPos ER (barCell c) 1 ∅ 0 ∗ all8 (startB X c) ∗ all8 (headR (F := F) c) ∗ barPayX (F := F) c ∗ all8 (recvB (F := F) c) ∗ all8 (sentR (F := F) c)
          ∗ whole X c ∗ (∃ f, oM.view.loc (c : Thread nD τ) ↦{fullShare} f) ∗ own' (F := F) c (O₂ c)) -∗ wpc c p Q))
      ⊢ wpc c (do semSignalWord n barS 1#32; semSignalWord n' barS 1#32; semWaitWord barS 2#32; p) Q := by
  subst hn hn'
  unfold bodyA wpc
  simp only [semSignalWord, semWaitWord, Prog.lift, Prog.bind_op, Prog.bind_ret]
  iintro ⟨#HI, ⟨⟨Hat, Hc, HtY, #HrY, HtX, #HrX⟩, HY, HX, HS, HH, HR, HE, HW, Ho, ⟨%W, HO⟩⟩, HQ⟩
  iapply (Rounds.wp_signal 𝒱₀ ER (rd X) (c : Thread nD τ) none (dst := (yp c : Thread nD τ)) (sem := barS) (r := 0) (d := false) (κ := K (barCell (yp c)))
    (by rw [duties_bar]; exact Finset.mem_univ _) (amount_bar X (yp c) false) () (O₁ c) rfl) $$ [HO HtY HY]
  · isplitr; · iapply (Inv_bar X K (yp c)); iexact HI
    isplitl [HO]; · iexact HO
    isplitl [HtY]; · iexact HtY
    isplitl [HY]; · rw [barPayY_yp]; iexact HY
    iexact HrY
  iintro HO
  iapply (Rounds.wp_signal 𝒱₀ ER (rd X) (c : Thread nD τ) none (dst := (xp c : Thread nD τ)) (sem := barS) (r := 0) (d := true) (κ := K (barCell (xp c)))
    (by rw [duties_bar]; exact Finset.mem_univ _) (amount_bar X (xp c) true) () (O₂ c) rfl) $$ [HO HtX HX]
  · isplitr; · iapply (Inv_bar X K (xp c)); iexact HI
    isplitl [HO]; · iexact HO
    isplitl [HtX]; · iexact HtX
    isplitl [HX]; · rw [barPayX_xp]; iexact HX
    iexact HrX
  iintro HO
  iapply (Rounds.wp_wait_rest_token 𝒱₀ ER (rd X) (c : Thread nD τ) none (κ := K (barCell c))
      (wpE_semWait_eq 𝒱₀ (c : Thread nD τ) none Set.univ) (Set.mem_univ _) () (O := O₂ c) (W := W) (R := 0) (m := 0) (T := ∅)
      ((Nat.zero_add 2).trans (expect_bar X c).symm)) $$ [Hc HO Hat]
  · isplitr; · iapply (Inv_bar X K c); iexact HI
    isplitl [Hc]; · iexact Hc
    isplitl [HO]; · iexact HO
    isplitr
    · iapply (mayWait_bar (F := F) c); iapply (Inv_lev X K); iexact HI
    iexact Hat
  rw [rest_bar]
  iintro ⟨HO, Hat, -, ⟨HY, HX⟩⟩
  iapply HQ
  isplitl [Hat]; · iexact Hat
  isplitl [HS HY]
  · iapply (startB_intro X c)
    isplitl [HS]; · iexact HS
    iexact HY
  isplitl [HH]; · iexact HH
  isplitl [HX]; · iexact HX
  isplitl [HR]; · iexact HR
  isplitl [HE]; · iexact HE
  isplitl [HW]; · iexact HW
  isplitl [Ho]; · iexact Ho
  iexists _
  iexact HO

end Cert.KernelIdeal.Attn

end
-- ==== Proof.Column0.lean ====
/- Column 0 of the printed body is the pieces, run for the heads in order. -/
module

public import proofs.«01_k».proof.Proof.Pieces

@[expose] public section

noncomputable section

namespace Cert.KernelIdeal.Attn

open Idealize.ShloMosaic Idealize.ShloMosaic.TcCoe Idealize.SL.Sem
open Cert.KernelIdeal.Gen

variable {F : FTy → Type} [FloatOps F] [Named F]

set_option maxHeartbeats 4000000 in
set_option maxRecDepth 65536 in
/-- Column 0's parts are the pieces. -/
theorem col0_eq (d0 : Dev nD) (v5 : BitVec 32) (h : k0_cond1 d0 = 1#1) :
    (do
      k0_part37 (F := F) qM (Memref.isWhole_whole _) kM (Memref.isWhole_whole _) vM (Memref.isWhole_whole _) wM (Memref.isWhole_whole _) oM (Memref.isWhole_whole _) koM (Memref.isWhole_whole _) voM (Memref.isWhole_whole _) obM (Memref.isWhole_whole _) oiM (Memref.isWhole_whole _) cc0_scratch4 cc0_scratch5 cc0_scratch6 cc0_scratch7 cc0_scratch8 cc0_scratch9 d0 v5 h
      sent 7)
    = col ⟨k0_dev3 d0, k0_dev3_lt d0 h⟩ ⟨k0_dev19 d0, k0_dev19_lt d0 h⟩ lo hi := rfl

end Cert.KernelIdeal.Attn

end
-- ==== Proof.Column1.lean ====
/- Column 1 of the printed body is the pieces, run for the heads in order. -/
module

public import proofs.«01_k».proof.Proof.Pieces

@[expose] public section

noncomputable section

namespace Cert.KernelIdeal.Attn

open Idealize.ShloMosaic Idealize.ShloMosaic.TcCoe Idealize.SL.Sem
open Cert.KernelIdeal.Gen

variable {F : FTy → Type} [FloatOps F] [Named F]

set_option maxHeartbeats 4000000 in
set_option maxRecDepth 65536 in
/-- Column 1's parts are the pieces. -/
theorem col1_eq (d0 : Dev nD) (v5 : BitVec 32) (h : k0_cond2 d0 = 1#1) :
    (do
      k0_part74 (F := F) qM (Memref.isWhole_whole _) kM (Memref.isWhole_whole _) vM (Memref.isWhole_whole _) wM (Memref.isWhole_whole _) oM (Memref.isWhole_whole _) koM (Memref.isWhole_whole _) voM (Memref.isWhole_whole _) obM (Memref.isWhole_whole _) oiM (Memref.isWhole_whole _) cc0_scratch4 cc0_scratch5 cc0_scratch6 cc0_scratch7 cc0_scratch8 cc0_scratch9 d0 v5 h
      sent 7)
    = col ⟨k0_dev27 d0, k0_dev27_lt d0 h⟩ ⟨k0_dev43 d0, k0_dev43_lt d0 h⟩ hi lo := rfl

end Cert.KernelIdeal.Attn

end
-- ==== Proof.Run.lean ====
/- The body whole: from the buffers and the opened cells to the buffers and the closed cells. -/
module

public import proofs.«01_k».proof.Proof.Body
public import proofs.«01_k».proof.Proof.Column0
public import proofs.«01_k».proof.Proof.Column1
public import proofs.«01_k».proof.Proof.Gen.KernelIdeal.Skeleton

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (X : In F) (K : GSem nD τ sig → ℕ) (c : Dev nD) (i : Fin 8)

/-- A buffer of device `c` whole, and at some contents. -/
abbrev pts {s : Shape} {e : EltTy} (M : Memref sig .tc .vmem s e) (c : Dev nD) (f : Buf (Elt F) (M.view.loc (c : Thread nD τ))) : sProp 𝕄 :=
  M.view.loc (c : Thread nD τ) ↦{fullShare} f
abbrev anyPts {s : Shape} {e : EltTy} (M : Memref sig .tc .vmem s e) (c : Dev nD) : sProp 𝕄 := iprop(∃ f, pts (F := F) M c f)

/-- Head `i`'s ghost state: its six cells opened, the six duties the device pays for it, the three credits it expects. -/
def headGh : sProp 𝕄 :=
  iprop((fresh (F := F) c i 0 ∗ fresh (F := F) c i 1 ∗ fresh (F := F) c i 2 ∗ fresh (F := F) c i 3 ∗ fresh (F := F) c i 4 ∗ fresh (F := F) c i 5)
    ∗ (dutyTok ER (cell c 0 i) 0 false ∗ dutyTok ER (cell (yp c) 1 i) 0 false ∗ dutyTok ER (cell c 2 i) 0 false
      ∗ dutyTok ER (cell (yp c) 3 i) 0 false ∗ dutyTok ER (cell c 4 i) 0 false ∗ dutyTok ER (cell (xp c) 5 i) 0 false)
    ∗ cred (tallyAt (cell c 1 i) () NB) ∗ cred (tallyAt (cell c 3 i) () NE) ∗ cred (tallyAt (cell c 5 i) () NB))
/-- The barrier's. -/
def barGh : sProp 𝕄 :=
  iprop(atPos ER (barCell c) 0 ∅ 0 ∗ cred (tallyAt (barCell c) () 2) ∗ dutyTok ER (barCell (yp c)) 0 false ∗ reached ER (barCell (yp c)) 0
      ∗ dutyTok ER (barCell (xp c)) 0 true ∗ reached ER (barCell (xp c)) 0)

/-- Head `i`'s slices of the buffers. -/
def headSl : sProp 𝕄 :=
  iprop(slc kM i c fullShare.left (X.k c) ∗ slc wM i c fullShare (X.w c) ∗ (∃ f, slc (F := F) koM i c fullShare f) ∗ (∃ f, slc (F := F) voM i c fullShare f)
    ∗ (∃ f, slc (F := F) obM i c fullShare f) ∗ (∃ f, slc (F := F) oiM i c fullShare f))

theorem deal : iprop(all8 (headGh (F := F) c) ∗ all8 (headSl X c))
    ⊢ iprop(giveY (F := F) c ∗ giveX (F := F) c ∗ all8 (startR X c) ∗ all8 (headR (F := F) c) ∗ all8 (recvB (F := F) c) ∗ all8 (sentR (F := F) c)) := by
  unfold giveY giveX all8
  simp only [← bigSep_sep']
  have h : ∀ i, iprop(headGh (F := F) c i ∗ headSl X c i)
      ⊢ iprop((dst (F := F) koM 1 c i ∗ dst (F := F) voM 3 c i) ∗ dst (F := F) oiM 5 c i ∗ startR X c i ∗ headR (F := F) c i ∗ recvB (F := F) c i ∗ sentR (F := F) c i) := fun i => by
    unfold headGh headSl startR headR recvB sentR
    iintro ⟨⟨⟨⟨P0, #R0⟩, ⟨P1, #R1⟩, ⟨P2, #R2⟩, ⟨P3, #R3⟩, ⟨P4, #R4⟩, ⟨P5, #R5⟩⟩, ⟨T0, T1, T2, T3, T4, T5⟩, C1, C3, C5⟩, Hk, Hw, Hko, Hvo, Hob, Hoi⟩
    isplitl [Hko Hvo]
    · isplitl [Hko]
      · isplitl [Hko]; · iexact Hko
        iexact R1
      isplitl [Hvo]; · iexact Hvo
      iexact R3
    isplitl [Hoi]
    · isplitl [Hoi]; · iexact Hoi
      iexact R5
    isplitl [Hk Hw T0 T1 T2 T3]
    · isplitl [Hk]; · iexact Hk
      isplitl [Hw]; · iexact Hw
      isplitl [T0]
      · isplitl [T0]; · iexact T0
        iexact R0
      isplitl [T1]; · iexact T1
      isplitl [T2]
      · isplitl [T2]; · iexact T2
        iexact R2
      iexact T3
    isplitl [P0 P1 C1 P2 P3 C3 Hob T4 T5]
    · isplitl [P0]; · iexact P0
      isplitl [C1 P1]
      · isplitl [C1]; · iexact C1
        iexact P1
      isplitl [P2]; · iexact P2
      isplitl [C3 P3]
      · isplitl [C3]; · iexact C3
        iexact P3
      isplitl [Hob]; · iexact Hob
      isplitl [T4]
      · isplitl [T4]; · iexact T4
        iexact R4
      iexact T5
    isplitl [C5 P5]
    · isplitl [C5]; · iexact C5
      iexact P5
    iexact P4
  exact bigSep_mono fun i _ => h i

/-! ## The buffers cut into the heads' slices, and put together -/

theorem whole_pts {e : EltTy} (M : Memref sig .tc .vmem S8x1024x128 e) (hM : M.view.set = Finset.univ) (c : Dev nD) (q : PosShare TreeShare)
    (f : Buf (Elt F) (M.view.loc (c : Thread nD τ))) :
    (M.view.loc (c : Thread nD τ) ↦{q} f : sProp 𝕄) = bigSep Finset.univ fun i => slc M i c q f := by
  rw [← slices M c q f, hM]

theorem any_cut {e : EltTy} (M : Memref sig .tc .vmem S8x1024x128 e) (hM : M.view.set = Finset.univ) (c : Dev nD) :
    anyPts (F := F) M c ⊢ bigSep Finset.univ fun i : Fin 8 => iprop(∃ f, slc (F := F) M i c fullShare f) := by
  have h : ∀ f : Buf (Elt F) (M.view.loc (c : Thread nD τ)), ∀ i : Fin 8, slc M i c fullShare f ⊢ iprop(∃ f, slc (F := F) M i c fullShare f) := fun f i => by
    iintro H; iexists f; iexact H
  have h' : ∀ f : Buf (Elt F) (M.view.loc (c : Thread nD τ)), pts M c f ⊢ bigSep Finset.univ fun i : Fin 8 => iprop(∃ f, slc (F := F) M i c fullShare f) := fun f => by
    unfold pts
    rw [whole_pts M hM c fullShare f]
    exact bigSep_mono fun i _ => h f i
  iintro ⟨%f, H⟩
  iapply (h' f); iexact H

theorem any_join {e : EltTy} (M : Memref sig .tc .vmem S8x1024x128 e) (hM : M.view.set = Finset.univ) (c : Dev nD)
    (f : Buf (Elt F) (M.view.loc (c : Thread nD τ))) : (bigSep Finset.univ fun i : Fin 8 => slc M i c fullShare f) ⊢ anyPts (F := F) M c := by
  rw [← whole_pts M hM c fullShare f]
  iintro H; iexists f; iexact H

/-- The whole buffers, the heads' slices out of them. -/
theorem cut : iprop(pts kM c (X.k c) ∗ pts wM c (X.w c) ∗ anyPts (F := F) koM c ∗ anyPts (F := F) voM c ∗ anyPts (F := F) obM c ∗ anyPts (F := F) oiM c)
    ⊢ iprop(all8 (headSl X c) ∗ (kM.view.loc (c : Thread nD τ) ↦{fullShare.right} X.k c)) := by
  have hs : iprop((bigSep Finset.univ fun i : Fin 8 => slc kM i c fullShare.left (X.k c)) ∗ (bigSep Finset.univ fun i : Fin 8 => slc wM i c fullShare (X.w c))
      ∗ (bigSep Finset.univ fun i : Fin 8 => iprop(∃ f, slc (F := F) koM i c fullShare f)) ∗ (bigSep Finset.univ fun i : Fin 8 => iprop(∃ f, slc (F := F) voM i c fullShare f))
      ∗ (bigSep Finset.univ fun i : Fin 8 => iprop(∃ f, slc (F := F) obM i c fullShare f)) ∗ (bigSep Finset.univ fun i : Fin 8 => iprop(∃ f, slc (F := F) oiM i c fullShare f)))
      ⊢ all8 (headSl X c) := by
    simp only [← bigSep_sep']
    exact Entails.of_eq rfl
  iintro ⟨Hk, Hw, Hko, Hvo, Hob, Hoi⟩
  ihave Hk2 := (pointsTo_share (PosShare.mem_left_op_right fullShare)).1 $$ Hk
  icases Hk2 with ⟨Hl, Hr⟩
  isplitr [Hr]
  · iapply hs
    isplitl [Hl]; · rw [← whole_pts kM (View.set_whole _) c fullShare.left (X.k c)]; iexact Hl
    isplitl [Hw]; · rw [← whole_pts wM (View.set_whole _) c fullShare (X.w c)]; iexact Hw
    isplitl [Hko]; · iapply (any_cut koM (View.set_whole _) c); iexact Hko
    isplitl [Hvo]; · iapply (any_cut voM (View.set_whole _) c); iexact Hvo
    isplitl [Hob]; · iapply (any_cut obM (View.set_whole _) c); iexact Hob
    iapply (any_cut oiM (View.set_whole _) c); iexact Hoi
  iexact Hr

/-- What a column leaves of head `i`, sorted: its cells awaited, and its slices. -/
def headDone : sProp 𝕄 :=
  iprop(done (F := F) c i 0 ∗ done (F := F) c i 1 ∗ done (F := F) c i 2 ∗ done (F := F) c i 3 ∗ done (F := F) c i 4 ∗ done (F := F) c i 5)

theorem join : iprop(all8 (headD X c) ∗ all8 (recvA X c) ∗ all8 (sentA X c) ∗ (kM.view.loc (c : Thread nD τ) ↦{fullShare.right} X.k c))
    ⊢ iprop(all8 (headDone (F := F) c) ∗ pts kM c (X.k c) ∗ pts wM c (X.w c) ∗ anyPts (F := F) koM c ∗ anyPts (F := F) voM c ∗ anyPts (F := F) obM c ∗ anyPts (F := F) oiM c) := by
  have h : ∀ i, iprop(headD X c i ∗ recvA X c i ∗ sentA X c i)
      ⊢ iprop(headDone (F := F) c i ∗ slc kM i c fullShare.left (X.k c) ∗ slc wM i c fullShare (X.w c) ∗ slc koM i c fullShare (X.k (yp c))
        ∗ slc voM i c fullShare (X.w (yp c)) ∗ slc obM i c fullShare (ob X c) ∗ slc oiM i c fullShare (ob X (xp c))) := fun i => by
    unfold headD recvA sentA headDone
    iintro ⟨⟨⟨D0, D1, D2, D3⟩, Hk, Hko, Hw, Hvo⟩, ⟨D5, Hoi⟩, D4, Hob⟩
    isplitl [D0 D1 D2 D3 D4 D5]
    · isplitl [D0]; · iexact D0
      isplitl [D1]; · iexact D1
      isplitl [D2]; · iexact D2
      isplitl [D3]; · iexact D3
      isplitl [D4]; · iexact D4
      iexact D5
    isplitl [Hk]; · iexact Hk
    isplitl [Hw]; · iexact Hw
    isplitl [Hko]; · iexact Hko
    isplitl [Hvo]; · iexact Hvo
    isplitl [Hob]; · iexact Hob
    iexact Hoi
  have h' : iprop(all8 (headD X c) ∗ all8 (recvA X c) ∗ all8 (sentA X c))
      ⊢ iprop(all8 (headDone (F := F) c) ∗ (bigSep Finset.univ fun i : Fin 8 => slc kM i c fullShare.left (X.k c)) ∗ (bigSep Finset.univ fun i : Fin 8 => slc wM i c fullShare (X.w c))
        ∗ (bigSep Finset.univ fun i : Fin 8 => slc koM i c fullShare (X.k (yp c))) ∗ (bigSep Finset.univ fun i : Fin 8 => slc voM i c fullShare (X.w (yp c)))
        ∗ (bigSep Finset.univ fun i : Fin 8 => slc obM i c fullShare (ob X c)) ∗ (bigSep Finset.univ fun i : Fin 8 => slc oiM i c fullShare (ob X (xp c)))) := by
    unfold all8
    simp only [← bigSep_sep']
    exact bigSep_mono fun i _ => h i
  iintro ⟨H1, H2, H3, Hr⟩
  ihave H := h' $$ [H1 H2 H3]
  · isplitl [H1]; · iexact H1
    isplitl [H2]; · iexact H2
    iexact H3
  icases H with ⟨HD, Hk, Hw, Hko, Hvo, Hob, Hoi⟩
  isplitl [HD]; · iexact HD
  isplitl [Hk Hr]
  · iapply (pointsTo_share (PosShare.mem_left_op_right fullShare)).2
    isplitl [Hk]; · rw [whole_pts kM (View.set_whole _) c fullShare.left (X.k c)]; iexact Hk
    iexact Hr
  isplitl [Hw]; · unfold pts; rw [whole_pts wM (View.set_whole _) c fullShare (X.w c)]; iexact Hw
  isplitl [Hko]; · iapply (any_join koM (View.set_whole _) c (X.k (yp c))); iexact Hko
  isplitl [Hvo]; · iapply (any_join voM (View.set_whole _) c (X.w (yp c))); iexact Hvo
  isplitl [Hob]; · iapply (any_join obM (View.set_whole _) c (ob X c)); iexact Hob
  iapply (any_join oiM (View.set_whole _) c (ob X (xp c))); iexact Hoi

/-! ## The cells closed -/

theorem close (g : GSem nD τ sig) : iprop(cellInv ER (rd X) (K g) g ∗ atPos ER g 1 ∅ 0) ⊢ (|={Set.univ}=> semVal g 0 : sProp 𝕄) :=
  Rounds.cell_close ER (rd X) (Set.mem_univ (K g)) id (duties_later X g)

/-- Head `i`'s six counters at zero. -/
def headZ : sProp 𝕄 :=
  iprop(semVal (cell c 0 i) 0 ∗ semVal (cell c 1 i) 0 ∗ semVal (cell c 2 i) 0 ∗ semVal (cell c 3 i) 0 ∗ semVal (cell c 4 i) 0 ∗ semVal (cell c 5 i) 0)

theorem close_head : iprop(Inv X K ∗ headDone (F := F) c i) ⊢ (|={Set.univ}=> headZ (F := F) c i : sProp 𝕄) := by
  unfold headDone headZ
  iintro ⟨#HI, D0, D1, D2, D3, D4, D5⟩
  imod (close X K (cell c 0 i)) $$ [D0] with Z0
  · isplitr; · iapply (Inv_cell X K c 0 i); iexact HI
    iexact D0
  imod (close X K (cell c 1 i)) $$ [D1] with Z1
  · isplitr; · iapply (Inv_cell X K c 1 i); iexact HI
    iexact D1
  imod (close X K (cell c 2 i)) $$ [D2] with Z2
  · isplitr; · iapply (Inv_cell X K c 2 i); iexact HI
    iexact D2
  imod (close X K (cell c 3 i)) $$ [D3] with Z3
  · isplitr; · iapply (Inv_cell X K c 3 i); iexact HI
    iexact D3
  imod (close X K (cell c 4 i)) $$ [D4] with Z4
  · isplitr; · iapply (Inv_cell X K c 4 i); iexact HI
    iexact D4
  imod (close X K (cell c 5 i)) $$ [D5] with Z5
  · isplitr; · iapply (Inv_cell X K c 5 i); iexact HI
    iexact D5
  imodintro
  isplitl [Z0]; · iexact Z0
  isplitl [Z1]; · iexact Z1
  isplitl [Z2]; · iexact Z2
  isplitl [Z3]; · iexact Z3
  isplitl [Z4]; · iexact Z4
  iexact Z5

theorem close_heads : iprop(Inv X K ∗ all8 (headDone (F := F) c)) ⊢ (|={Set.univ}=> all8 (headZ (F := F) c) : sProp 𝕄) := by
  have h : iprop(Inv X K ∗ all8 (headDone (F := F) c)) ⊢ all8 (fun i => iprop(|={Set.univ}=> headZ (F := F) c i)) :=
    bigSep_with_persistent fun i _ => close_head X K c i
  exact h.trans (bigSep_fupd _ _)

/-! ## The body -/

/-- The body at the buffers it is launched on. -/
abbrev bodyP : P F PUnit :=
  cc0_body qM (Memref.isWhole_whole _) kM (Memref.isWhole_whole _) vM (Memref.isWhole_whole _) wM (Memref.isWhole_whole _) oM (Memref.isWhole_whole _) koM (Memref.isWhole_whole _) voM (Memref.isWhole_whole _) obM (Memref.isWhole_whole _) oiM (Memref.isWhole_whole _) cc0_scratch4 cc0_scratch5 cc0_scratch6 cc0_scratch7 cc0_scratch8 cc0_scratch9

/-- What the body starts from, and what it ends at. -/
def bodyS : sProp 𝕄 :=
  iprop(barGh (F := F) c ∗ all8 (headGh (F := F) c) ∗ pts qM c (X.q c) ∗ pts kM c (X.k c) ∗ pts vM c (X.v c) ∗ pts wM c (X.w c) ∗ anyPts (F := F) oM c
    ∗ (anyPts (F := F) koM c ∗ anyPts (F := F) voM c ∗ anyPts (F := F) obM c ∗ anyPts (F := F) oiM c) ∗ own' (F := F) c (O₀ c))
def bodyE : sProp 𝕄 :=
  iprop(semVal (barCell c) 0 ∗ all8 (headZ (F := F) c) ∗ pts qM c (X.q c) ∗ pts kM c (X.k c) ∗ pts vM c (X.v c) ∗ pts wM c (X.w c) ∗ pts oM c (out X c)
    ∗ (anyPts (F := F) koM c ∗ anyPts (F := F) voM c ∗ anyPts (F := F) obM c ∗ anyPts (F := F) oiM c) ∗ own' (F := F) c 0)

theorem bodyS_cut : bodyS X c ⊢ bodyA X c := by
  unfold bodyS bodyA barGh
  iintro ⟨HB, HG, Hq, Hk, Hv, Hw, Ho, ⟨Hko, Hvo, Hob, Hoi⟩, HO⟩
  ihave H := (cut X c) $$ [Hk Hw Hko Hvo Hob Hoi]
  · isplitl [Hk]; · iexact Hk
    isplitl [Hw]; · iexact Hw
    isplitl [Hko]; · iexact Hko
    isplitl [Hvo]; · iexact Hvo
    isplitl [Hob]; · iexact Hob
    iexact Hoi
  icases H with ⟨HS, Hr⟩
  ihave H := (deal X c) $$ [HG HS]
  · isplitl [HG]; · iexact HG
    iexact HS
  icases H with ⟨HY, HX, H1, H2, H3, H4⟩
  isplitl [HB]; · iexact HB
  isplitl [HY]; · iexact HY
  isplitl [HX]; · iexact HX
  isplitl [H1]; · iexact H1
  isplitl [H2]; · iexact H2
  isplitl [H3]; · iexact H3
  isplitl [H4]; · iexact H4
  isplitl [Hq Hv Hr]
  · unfold whole
    isplitl [Hq]; · iexact Hq
    isplitl [Hv]; · iexact Hv
    iexact Hr
  isplitl [Ho]; · iexact Ho
  iexact HO

theorem colPost_join : iprop(Inv X K ∗ atPos ER (barCell c) 1 ∅ 0 ∗ colPost X c) ⊢ (|={Set.univ}=> bodyE X c : sProp 𝕄) := by
  unfold colPost bodyE whole
  iintro ⟨#HI, Hb, H1, H2, H3, ⟨Hq, Hv, Hr⟩, Ho, HO⟩
  ihave H := (join X c) $$ [H1 H2 H3 Hr]
  · isplitl [H1]; · iexact H1
    isplitl [H2]; · iexact H2
    isplitl [H3]; · iexact H3
    iexact Hr
  icases H with ⟨HD, Hk, Hw, Hs⟩
  imod (close X K (barCell c)) $$ [Hb] with Z
  · isplitr; · iapply (Inv_bar X K c); iexact HI
    iexact Hb
  imod (close_heads X K c) $$ [HD] with ZH
  · isplitr; · iexact HI
    iexact HD
  imodintro
  isplitl [Z]; · iexact Z
  isplitl [ZH]; · iexact ZH
  isplitl [Hq]; · iexact Hq
  isplitl [Hk]; · iexact Hk
  isplitl [Hv]; · iexact Hv
  isplitl [Hw]; · iexact Hw
  isplitl [Ho]; · iexact Ho
  isplitl [Hs]; · iexact Hs
  iexact HO

set_option maxRecDepth 65536 in
/-- What the body does: the barrier, and its device's column. -/
theorem tail_eq (d : Dev nD) : ∃ j j' : Fin 8 → Fin 16, ∃ n n' : Dev nD, n = yp d ∧ n' = xp d ∧ j = mine d ∧ j' = his d
    ∧ (∀ Q : PUnit → sProp 𝕄, wpc d (do semSignalWord (yp d) barS 1#32; semSignalWord (xp d) barS 1#32; semWaitWord barS 2#32; col n n' j j') Q
        ⊢ wpc d (bodyP (F := F)) Q) := by
  have h4 : d.val < 4 := d.isLt
  rcases (by omega : d.val / 2 = 0 ∨ d.val / 2 = 1) with h | h
  · have h1 : k0_cond1 d = 1#1 := (cond1_iff d).mpr h
    have h2 : ¬ k0_cond2 d = 1#1 := fun e => by have := (cond2_iff d).mp e; omega
    refine ⟨lo, hi, _, _, dev3_eq d h1, dev19_eq d h1, (mine_col0 d h).symm, (his_col0 d h).symm, fun Q => ?_⟩
    rw [← col0_eq d (Scalar.remsi (Scalar.divsi (Dev.word d) 1#32) 2#32) h1]
    unfold bodyP wpc
    rw [cc0_body_eq_skeleton]
    unfold cc0_body_skel
    simp only [Prog.lift, Prog.bind_op, Prog.bind_ret, wp_deviceId, dif_pos h1, dif_neg h2, dev1_eq, dev2_eq]
    exact .rfl
  · have h1 : ¬ k0_cond1 d = 1#1 := fun e => by have := (cond1_iff d).mp e; omega
    have h2 : k0_cond2 d = 1#1 := (cond2_iff d).mpr h
    refine ⟨hi, lo, _, _, dev27_eq d h2, dev43_eq d h2, (mine_col1 d h).symm, (his_col1 d h).symm, fun Q => ?_⟩
    rw [← col1_eq d (Scalar.remsi (Scalar.divsi (Dev.word d) 1#32) 2#32) h2]
    unfold bodyP wpc
    rw [cc0_body_eq_skeleton]
    unfold cc0_body_skel
    simp only [Prog.lift, Prog.bind_op, Prog.bind_ret, wp_deviceId, dif_neg h1, dif_pos h2, dev1_eq, dev2_eq]
    exact .rfl

/-- An update after a program. -/
theorem wp_upd {α : Type} (p : P F α) (Q : α → sProp 𝕄) : wpc c p (fun a => iprop(|={Set.univ}=> Q a)) ⊢ wpc c p Q := by
  unfold wpc
  exact wp_fupd (M := 𝕄) (Fr := frame) (wpE := wpE (defs₀ (F := F)) 𝒱₀ (c : Thread nD τ) none) (E := Set.univ) p Q

/-- The body, from what it starts from to what it ends at. -/
theorem run_body (Q : PUnit → sProp 𝕄) : iprop(Inv X K ∗ bodyS X c ∗ (bodyE X c -∗ Q ⟨⟩)) ⊢ wpc c (bodyP (F := F)) Q := by
  obtain ⟨j, j', n, n', hn, hn', hj, hj', h⟩ := tail_eq (F := F) c
  refine BIBase.Entails.trans ?_ (h Q)
  iintro ⟨#HI, HS, HQ⟩
  iapply (run_barrier X K c (yp c) (xp c) rfl rfl (col n n' j j') Q)
  isplitr; · iexact HI
  isplitl [HS]; · iapply (bodyS_cut X c); iexact HS
  iintro ⟨Hat, H⟩
  iapply (wp_upd c (col n n' j j') Q)
  iapply (run_col X K c n n' hn hn' j j' hj hj' _)
  isplitr; · iexact HI
  icases H with ⟨H1, H2, H3, H4, H5, H6, H7, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro H
  imod (colPost_join X K c) $$ [Hat H] with HE
  · isplitr; · iexact HI
    isplitl [Hat]; · iexact Hat
    iexact H
  imodintro
  iapply HQ; iexact HE

end Cert.KernelIdeal.Attn

end
-- ==== Proof.Region.lean ====
/- The kernel region's record: what its windows hold, what its body's invariant is before and after, and the region entered
   from and left to the host's valuations. -/
module

public import proofs.«01_k».proof.Proof.Run
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F] [Named F]

local notation "𝕄" => MT nD τ sig Unit (Elt F) ℕ UU ℕ

variable (m : (ℓ : Loc nD τ sig) → Buf (Elt F) ℓ) (c : Dev nD)

/-- What the region's windows fetch on each device. -/
def X : In F where
  q c := (win0_0.blk t0_0).view.read (Elt F) (V1 m c main_v10)
  k c := (win0_1.blk t0_0).view.read (Elt F) (V1 m c main_v17)
  v c := (win0_2.blk t0_0).view.read (Elt F) (V1 m c main_v24)
  w c := (win0_3.blk t0_0).view.read (Elt F) (V1 m c main_v26)

/-- The landing and outgoing buffers, at contents not chosen. -/
abbrev scr : sProp 𝕄 := iprop(anyPts (F := F) koM c ∗ anyPts (F := F) voM c ∗ anyPts (F := F) obM c ∗ anyPts (F := F) oiM c)

/-- The cells opened, under some names. -/
def opened : sProp 𝕄 := iprop(∃ K, Inv (X m) K ∗ barGh (F := F) c ∗ all8 (headGh (F := F) c))
/-- The cells closed. -/
def closed : sProp 𝕄 := iprop(semVal (barCell c) 0 ∗ all8 (headZ (F := F) c))

/-- The body's invariant by the points done. -/
def phiAt : ℕ → sProp 𝕄
  | 0 => iprop(opened m c ∗ scr (F := F) c ∗ ∃ r, prngReg c r)
  | _ + 1 => iprop(closed (F := F) c ∗ scr (F := F) c ∗ ∃ r, prngReg c r)
/-- What the device owes by the points done. -/
def owedAt (c : Dev nD) : ℕ → CellTallies nD τ sig Unit
  | 0 => O₀ c
  | _ + 1 => 0

/-- The region's proof data: the arrays as the host leaves them, the staging buffers as the body leaves them, the cells open
    before the one point and closed after it, and what the device owes then. -/
def dat (c : Dev nD) : Dat τ (Elt F) Unit ℕ UU ℕ cfg0 c where
  A w := match w with
    | 0 => V1 m c main_v10
    | 1 => V1 m c main_v17
    | 2 => V1 m c main_v24
    | 3 => V1 m c main_v26
    | 4 => V1 m c main_v27
  after w _ := match w with
    | 0 => (X m).q c
    | 1 => (X m).k c
    | 2 => (X m).v c
    | 3 => (X m).w c
    | 4 => out (X m) c
  Φ t := phiAt m c t.val
  q _ := fullShare
  owed t := owedAt c t.val

theorem owed_zero : (dat m c).owed 0 = O₀ c := rfl
theorem owed_first : (dat m c).owed t0_0.castSucc = O₀ c := rfl
theorem owed_end : (dat m c).owed t0_0.succ = 0 := rfl
theorem owed_last : (dat m c).owed (Fin.last cfg0.N) = 0 := by
  show owedAt c (Fin.last cfg0.N).val = 0
  rw [show (Fin.last cfg0.N).val = 1 from N_0]; rfl
theorem phi_zero : (dat m c).Φ 0 = iprop(opened m c ∗ scr (F := F) c ∗ ∃ r, prngReg c r) := rfl
theorem phi_first : (dat m c).Φ t0_0.castSucc = iprop(opened m c ∗ scr (F := F) c ∗ ∃ r, prngReg c r) := rfl
theorem phi_end : (dat m c).Φ t0_0.succ = iprop(closed (F := F) c ∗ scr (F := F) c ∗ ∃ r, prngReg c r) := rfl
theorem phi_last : (dat m c).Φ (Fin.last cfg0.N) = iprop(closed (F := F) c ∗ scr (F := F) c ∗ ∃ r, prngReg c r) := by
  show phiAt m c (Fin.last cfg0.N).val = _
  rw [show (Fin.last cfg0.N).val = 1 from N_0]; rfl

theorem owes_in (t : Fin (cfg0.N + 1)) (O : CellTallies nD τ sig Unit) (h : (dat m c).owed t = O) :
    own' (F := F) c O ⊢ ((dat m c).owesAt () t : sProp 𝕄) := by
  unfold Dat.owesAt Pipeline.owesWithin Dat.bound
  rw [h, show (dat m c).recorded t = Set.univ from rfl]
  iintro ⟨%W, HO⟩
  iexists W
  isplitr; · ipureintro; exact fun _ _ => Or.inl trivial
  iexact HO
theorem owes_out (t : Fin (cfg0.N + 1)) (O : CellTallies nD τ sig Unit) (h : (dat m c).owed t = O) :
    ((dat m c).owesAt () t : sProp 𝕄) ⊢ own' (F := F) c O := by
  unfold Dat.owesAt Pipeline.owesWithin
  rw [h]
  iintro ⟨%W, -, HO⟩
  iexists W
  iexact HO

/-- A staging buffer at given contents. -/
abbrev stg (b : Ref sig .tc) (Y : b.ty.Contents (Elt F)) : sProp 𝕄 :=
  iprop(∃ f : Buf (Elt F) ((c : Thread nD τ).loc b), ⌜f = Y⌝ ∗ (((c : Thread nD τ).loc b) ↦{fullShare} f))

theorem before_q (d) : (dat m c).before 0 t0_0 d = (X m).q c := by
  unfold Dat.before; rw [if_pos (fetch0_0 t0_0)]; rfl
theorem before_k (d) : (dat m c).before 1 t0_0 d = (X m).k c := by
  unfold Dat.before; rw [if_pos (fetch0_1 t0_0)]; rfl
theorem before_v (d) : (dat m c).before 2 t0_0 d = (X m).v c := by
  unfold Dat.before; rw [if_pos (fetch0_2 t0_0)]; rfl
theorem before_w (d) : (dat m c).before 3 t0_0 d = (X m).w c := by
  unfold Dat.before; rw [if_pos (fetch0_3 t0_0)]; rfl

set_option maxRecDepth 8000 in
/-- The body's obligation: `run_body` at what the windows fetched. -/
theorem body_ok : BodyObligation (dat m c) (defs₀ (F := F)) 𝒱₀ () Set.univ := fun t => by
  obtain rfl := fin_N0 t
  rw [bigSep_W0, bigSep_W0, phi_first, phi_end]
  simp only [owns_whole_eq]
  show iprop((opened m c ∗ scr (F := F) c ∗ ∃ r, prngReg c r) ∗ (dat m c).owesAt () t0_0.castSucc
      ∗ (∃ d, stg c cc0_stg0_0 ((dat m c).before 0 t0_0 d)) ∗ (∃ d, stg c cc0_stg1_0 ((dat m c).before 1 t0_0 d))
      ∗ (∃ d, stg c cc0_stg2_0 ((dat m c).before 2 t0_0 d)) ∗ (∃ d, stg c cc0_stg3_0 ((dat m c).before 3 t0_0 d))
      ∗ (∃ d, stg c cc0_stg4_0 ((dat m c).before 4 t0_0 d)))
    ⊢ wpc c (bodyP (F := F)) fun _ => iprop((closed (F := F) c ∗ scr (F := F) c ∗ ∃ r, prngReg c r) ∗ (dat m c).owesAt () t0_0.succ
      ∗ stg c cc0_stg0_0 ((X m).q c) ∗ stg c cc0_stg1_0 ((X m).k c) ∗ stg c cc0_stg2_0 ((X m).v c) ∗ stg c cc0_stg3_0 ((X m).w c)
      ∗ stg c cc0_stg4_0 (out (X m) c))
  unfold opened closed
  iintro ⟨⟨⟨%K, #HI, HB, HG⟩, HS, Hr⟩, HO, ⟨%d0, %f0, %h0, Hq⟩, ⟨%d1, %f1, %h1, Hk⟩, ⟨%d2, %f2, %h2, Hv⟩, ⟨%d3, %f3, %h3, Hw⟩, ⟨%d4, %f4, -, Ho⟩⟩
  have e0 : f0 = (X m).q c := h0.trans (before_q m c d0)
  have e1 : f1 = (X m).k c := h1.trans (before_k m c d1)
  have e2 : f2 = (X m).v c := h2.trans (before_v m c d2)
  have e3 : f3 = (X m).w c := h3.trans (before_w m c d3)
  subst e0 e1 e2 e3
  ihave HO := (owes_out m c _ _ (owed_first m c)) $$ HO
  iapply (run_body (X m) K c _)
  isplitr; · iexact HI
  isplitl [HB HG Hq Hk Hv Hw Ho HS HO]
  · unfold bodyS
    isplitl [HB]; · iexact HB
    isplitl [HG]; · iexact HG
    isplitl [Hq]; · iexact Hq
    isplitl [Hk]; · iexact Hk
    isplitl [Hv]; · iexact Hv
    isplitl [Hw]; · iexact Hw
    isplitl [Ho]; · iexists f4; iexact Ho
    isplitl [HS]; · iexact HS
    iexact HO
  unfold bodyE
  iintro ⟨HZ, HH, Hq, Hk, Hv, Hw, Ho, HS, HO⟩
  isplitl [HZ HH HS Hr]
  · isplitl [HZ HH]
    · isplitl [HZ]; · iexact HZ
      iexact HH
    isplitl [HS]; · iexact HS
    iexact Hr
  isplitl [HO]; · iapply (owes_in m c _ _ (owed_end m c)); iexact HO
  isplitl [Hq]
  · iexists _; isplitr; · (ipureintro; rfl)
    iexact Hq
  isplitl [Hk]
  · iexists _; isplitr; · (ipureintro; rfl)
    iexact Hk
  isplitl [Hv]
  · iexists _; isplitr; · (ipureintro; rfl)
    iexact Hv
  isplitl [Hw]
  · iexists _; isplitr; · (ipureintro; rfl)
    iexact Hw
  iexists _; isplitr; · (ipureintro; rfl)
  iexact Ho

end Cert.KernelIdeal.Attn

end
-- ==== Proof.Record.lean ====
/- The kernel's region as a segment of @main: the transfer cells opened on the way in, the array of results changed on the
   way out, everything else as it was. -/
module

public import proofs.«01_k».proof.Proof.Region

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F] [Named F]

local notation "𝕄" => MT nD τ sig Unit (Elt F) ℕ UU ℕ

variable (m : (ℓ : Loc nD τ sig) → Buf (Elt F) ℓ) (c : Dev nD)

/-- The one region's proof data. -/
def pdats (p : Fin 1) (c : Dev nD) : Dat τ (Elt F) Unit ℕ UU ℕ (cfgs p) c := match p with | 0 => dat m c

/-- What the region leaves: the results' array as flushed. -/
def outs : Outs (F := F) := fun _ r c => Function.update (V1 m c) (Proc.devRef .tc main_v27) ((dat m c).arrAt 4 cfg0.N) (Proc.devRef .tc r)

/-- The region's own semaphores: the transfer cells, head by head. -/
def osem (p : Fin 8 × Fin 6) : SemLoc sig := .dma (dS p.2 p.1)
theorem osem_inj : Function.Injective osem := fun _ _ h => Prod.ext (dS_inj (SemLoc.dma.inj h)).2 (dS_inj (SemLoc.dma.inj h)).1

theorem own_facts : Pipeline.OwnSemFacts spec0 osem := by decide

theorem six (B : Fin 6 → sProp 𝕄) : bigSep Finset.univ B = iprop(B 0 ∗ B 1 ∗ B 2 ∗ B 3 ∗ B 4 ∗ B 5) := by
  rw [bigSep_univ_eq_bigSepL [0, 1, 2, 3, 4, 5] (by decide) (by decide)]
  simp only [bigSepL_cons_cons, bigSepL_singleton]
  rfl

theorem ownSems_eq : (Pipeline.ownSems0 osem c : sProp 𝕄) = all8 (headZ (F := F) c) := by
  unfold Pipeline.ownSems0 all8
  rw [bigSep_univ_prod]
  exact bigSep_congr fun i _ => six fun k => semVal (cell c k i) 0

/-- Head `i`'s ghost state from launch: the rights to open its cells, the duties the device pays, the credits it expects. -/
def headTk (i : Fin 8) : sProp 𝕄 :=
  iprop((openTok ER (cell c 0 i) ∗ openTok ER (cell c 1 i) ∗ openTok ER (cell c 2 i) ∗ openTok ER (cell c 3 i) ∗ openTok ER (cell c 4 i) ∗ openTok ER (cell c 5 i))
    ∗ (dutyTok ER (cell c 0 i) 0 false ∗ dutyTok ER (cell (yp c) 1 i) 0 false ∗ dutyTok ER (cell c 2 i) 0 false
      ∗ dutyTok ER (cell (yp c) 3 i) 0 false ∗ dutyTok ER (cell c 4 i) 0 false ∗ dutyTok ER (cell (xp c) 5 i) 0 false)
    ∗ cred (tallyAt (cell c 1 i) () NB) ∗ cred (tallyAt (cell c 3 i) () NE) ∗ cred (tallyAt (cell c 5 i) () NB))
/-- The device's ghost state from launch. -/
def Tk : sProp 𝕄 := iprop(∃ K, Inv (X m) K ∗ barGh (F := F) c ∗ all8 (headTk (F := F) c))

theorem open_cell (K : GSem nD τ sig → ℕ) (i : Fin 8) (k : Fin 6) :
    iprop(Inv (X m) K ∗ openTok ER (cell c k i) ∗ semVal (cell c k i) 0) ⊢ iprop(|={Set.univ}=> fresh (F := F) c i k) := by
  iintro ⟨#HI, HT, HV⟩
  iapply (Rounds.cell_open ER (rd (X m)) (g := cell c k i) (Set.mem_univ (K (cell c k i))))
  isplitr; · iapply (Inv_cell (X m) K c k i); iexact HI
  isplitl [HT] <;> iassumption

theorem open_head (K : GSem nD τ sig → ℕ) (i : Fin 8) :
    iprop(Inv (X m) K ∗ (headTk (F := F) c i ∗ headZ (F := F) c i)) ⊢ iprop(|={Set.univ}=> headGh (F := F) c i) := by
  unfold headTk headZ headGh
  iintro ⟨#HI, ⟨⟨T0, T1, T2, T3, T4, T5⟩, HR⟩, Z0, Z1, Z2, Z3, Z4, Z5⟩
  imod (open_cell m c K i 0) $$ [T0 Z0] with P0
  · isplitr; · iexact HI
    isplitl [T0] <;> iassumption
  imod (open_cell m c K i 1) $$ [T1 Z1] with P1
  · isplitr; · iexact HI
    isplitl [T1] <;> iassumption
  imod (open_cell m c K i 2) $$ [T2 Z2] with P2
  · isplitr; · iexact HI
    isplitl [T2] <;> iassumption
  imod (open_cell m c K i 3) $$ [T3 Z3] with P3
  · isplitr; · iexact HI
    isplitl [T3] <;> iassumption
  imod (open_cell m c K i 4) $$ [T4 Z4] with P4
  · isplitr; · iexact HI
    isplitl [T4] <;> iassumption
  imod (open_cell m c K i 5) $$ [T5 Z5] with P5
  · isplitr; · iexact HI
    isplitl [T5] <;> iassumption
  imodintro
  isplitl [P0 P1 P2 P3 P4 P5]
  · isplitl [P0]; · iexact P0
    isplitl [P1]; · iexact P1
    isplitl [P2]; · iexact P2
    isplitl [P3]; · iexact P3
    isplitl [P4]; · iexact P4
    iexact P5
  iexact HR

theorem hopen : iprop(Tk m c ∗ Pipeline.ownSems0 osem c ∗ levAts L lv) ⊢ iprop(|={Set.univ}=> opened m c) := by
  rw [ownSems_eq]
  unfold Tk opened
  iintro ⟨⟨%K, #HI, HB, HT⟩, HZ, -⟩
  have h : iprop(Inv (X m) K ∗ all8 (headTk (F := F) c) ∗ all8 (headZ (F := F) c)) ⊢ iprop(|={Set.univ}=> all8 (headGh (F := F) c)) := by
    unfold all8
    rw [← bigSep_sep']
    exact (bigSep_with_persistent (R := Inv (X m) K) fun i _ => open_head m c K i).trans (bigSep_fupd _ _)
  imod h $$ [HT HZ] with HG
  · isplitr; · iexact HI
    isplitl [HT] <;> iassumption
  imodintro
  iexists K
  isplitr; · iexact HI
  isplitl [HB] <;> iassumption

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem hin (c : Dev nD) : iprop(Pipeline.scopedRest (Pipeline.pin (pcfgs (F := F)) adm 0).spec c ∗ (∃ r, prngReg c r)
      ∗ StableHlo.held (c.tc : Thread nD τ) ∅ (V1 m c) ∗ opened m c)
    ⊢ (pdats m 0 c).Φ 0 := by
  rw [show (pdats m 0 c).Φ 0 = iprop(opened m c ∗ scr (F := F) c ∗ ∃ r, prngReg c r) from phi_zero m c,
    show (Pipeline.scopedRest (Pipeline.pin (pcfgs (F := F)) adm 0).spec c : sProp 𝕄) = scr (F := F) c from scopedRest0_eq c]
  iintro ⟨Hs, Hp, -, Hg⟩
  isplitl [Hg]; · iexact Hg
  isplitl [Hs]; · iexact Hs
  iexact Hp

theorem held_empty (V : Valuation τ sig (Elt F)) : (StableHlo.held (c.tc : Thread nD τ) ∅ V : sProp 𝕄) = BI.emp := by
  unfold StableHlo.held; exact BI.bigSep_empty

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 osem c ∗ semVal (barCell c) 0) := by
  rw [show (pdats m 0 c).Φ (Fin.last (Pipeline.pin (pcfgs (F := F)) adm 0).N) = iprop(closed (F := F) c ∗ scr (F := F) c ∗ ∃ r, prngReg c r) from phi_last m c,
    show (Pipeline.scopedRest (Pipeline.pin (pcfgs (F := F)) adm 0).spec c : sProp 𝕄) = scr (F := F) c from scopedRest0_eq c,
    held_empty, ownSems_eq]
  unfold closed
  iintro ⟨⟨HZ, HH⟩, Hs, Hp⟩
  isplitl [Hs]; · iexact Hs
  isplitl [Hp]; · iexact Hp
  isplitr; · iempintro
  isplitl [HH]; · iexact HH
  iexact HZ

theorem owed_cut (t : Fin (cfg0.N + 1)) (g : GSem nD τ sig) (u : Unit) (h : 0 < (dat m c).owed t g u) : u ∈ L g ∧ 0 < lv g u := by
  have h' : 0 < owedAt c t.val g u := h
  cases e : t.val with
  | zero => rw [e] at h'; exact O₀_pos h'
  | succ n => rw [e] at h'; exact absurd h' (Nat.lt_irrefl 0)

theorem sem_small : ∀ (w : Fin 5) (s : Fin (spec0 w).nbuf), ((spec0 w).sem s).val < 5 := by decide

theorem level_cut : Pipeline.LevelCutOwed (pcfgs (F := F)) adm (pdats m) () L lv 0 fun _ => 0 where
  hι c w s := by rw [L_tc]; exact Finset.mem_singleton_self _
  hιb c w s := by
    show (if _ then 0 else _) ≤ 0
    rw [if_pos (sem_small w s)]
  hD c t g i h := owed_cut m c t g i h

theorem share_full (w : Fin 5) : (dat m c).share w = fullShare := by unfold Dat.share; split <;> rfl

/-- What the region may touch besides: every other unscoped buffer. -/
abbrev rest : Finset (DevRef τ sig) := Pipeline.ucRefs τ sig \ Pipeline.arrRefs (τ := τ) spec0

theorem v27_mem : (Proc.devRef .tc main_v27 : DevRef τ sig) ∈ Pipeline.arrRefs (τ := τ) spec0 :=
  Finset.mem_map_of_mem _ (Finset.mem_image_of_mem _ (Finset.mem_univ (4 : Fin 5)))

theorem rest_same (b : DevRef τ sig) (hb : b ∈ rest) : V2 m (outs m) c b = V1 m c b := by
  unfold V2
  refine Function.update_of_ne (fun h => (Finset.mem_sdiff.mp hb).2 ?_) _ _
  rw [h]; exact v27_mem

theorem arr_in (w : Fin 5) : (dat m c).arrAt w 0 = V1 m c (Proc.devRef .tc (Pipeline.arrRef spec0 w)) := by
  fin_cases w <;> rfl

theorem arr_out (w : Fin 5) : (dat m c).arrAt w cfg0.N = V2 m (outs m) c (Proc.devRef .tc (Pipeline.arrRef spec0 w)) := by
  fin_cases w
  · exact ((dat m c).arrAt_in 0 rfl _).trans (V2_of m (outs m) c main_v10 (by decide)).symm
  · exact ((dat m c).arrAt_in 1 rfl _).trans (V2_of m (outs m) c main_v17 (by decide)).symm
  · exact ((dat m c).arrAt_in 2 rfl _).trans (V2_of m (outs m) c main_v24 (by decide)).symm
  · exact ((dat m c).arrAt_in 3 rfl _).trans (V2_of m (outs m) c main_v26 (by decide)).symm
  · show _ = V2 m (outs m) c (Proc.devRef .tc main_v27)
    unfold V2 outs
    rw [Function.update_self, Function.update_self]
    rfl

set_option backward.isDefEq.respectTransparency.types false in
/-- The region. -/
def reg : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ rest (Finset.empty_subset _) kit rfl (fun c => (body_ok m c).loose)
    (fun _ => 0) O₀ (fun c => (owed_zero m c).trans (zero_add _).symm) (owed_last m) (fun _ => rfl) (fun c w => share_full m c w)
    (V1 m) (V2 m (outs m)) (fun c b hb => rest_same m c b (Finset.mem_sdiff.mp hb).1)
    (Tk m) (fun c => semVal (barCell c) 0) (opened m) (fun c => semVal (barCell c) 0) (hopen m) (hin m) (hout m)
    (fun c => by iintro H; imodintro; iexact H)
    (fun _ => 0) (level_cut m) (fun _ => iprop(emp)) (arr_in m) (arr_out m)

/-- What rides beside the buffers up to the region, and after it. -/
def E (k : Fin 2) (c : Dev nD) : sProp 𝕄 := match k with
  | 0 => iprop(Tk m c ∗ own' (F := F) c (O₀ c) ∗ ∃ r, prngReg c r)
  | 1 => iprop(semVal (barCell c) 0 ∗ own' (F := F) c 0)

theorem held_split (V : Valuation τ sig (Elt F)) : (StableHlo.held (c.tc : Thread nD τ) (Pipeline.ucRefs τ sig) V : sProp 𝕄)
    = iprop(StableHlo.held (c.tc : Thread nD τ) (Pipeline.arrRefs (τ := τ) spec0) V ∗ StableHlo.held (c.tc : Thread nD τ) rest V) :=
  StableHlo.held_sub_split _ (Pipeline.arrRefs_sub_ucRefs spec0 (by decide)) V

theorem reg_pre (c : Dev nD) : iprop(StableHlo.held (c : Thread nD τ) (Pipeline.ucRefs τ sig) (V1 m c) ∗ E m 0 c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) rest (V1 m c) ∗ emp) ∗ Tk m c ∗ ∃ Wd, owes (c : Thread nD τ) (0 + O₀ c) Wd)
  rw [held_split, zero_add]
  unfold E
  iintro ⟨⟨Ha, Hr⟩, HT, HO, Hp⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c ⊢ iprop(StableHlo.held (c : Thread nD τ) (Pipeline.ucRefs τ sig) (V2 m (outs m) c) ∗ E m 1 c) := by
  show iprop(StableHlo.held (c.tc : Thread nD τ) (Pipeline.arrRefs (τ := τ) spec0) (V2 m (outs m) c) ∗ (∃ r, prngReg c r)
    ∗ (StableHlo.held (c.tc : Thread nD τ) rest (V2 m (outs m) c) ∗ emp) ∗ semVal (barCell c) 0
    ∗ ∃ Wd, owes (c : Thread nD τ) (0 : CellTallies nD τ sig Unit) Wd) ⊢ _
  rw [held_split]
  unfold E
  iintro ⟨Ha, -, ⟨Hr, -⟩, HZ, HO⟩
  isplitl [Ha Hr]
  · isplitl [Ha] <;> iassumption
  isplitl [HZ]; · iexact HZ
  iexact HO

end Cert.KernelIdeal.Attn

end
-- ==== Proof.Ghost.lean ====
/- The ghost state at launch: every cell's invariant set up (the transfer cells dormant until the region opens them), every
   duty's token dealt to the device that pays it, every credit to the device that waits for it. -/
module

public import proofs.«01_k».proof.Proof.Record

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (m : (ℓ : Loc nD τ sig) → Buf (Elt F) ℓ) (c : Dev nD)

/-! ## The cells and the tokens -/

def barEmb : Dev nD ↪ GSem nD τ sig := ⟨fun c => barCell c, fun _ _ h => congrArg (fun g : GSem nD τ sig => g.1.1) h⟩
def cellEmb : Dev nD × (Fin 6 × Fin 8) ↪ GSem nD τ sig :=
  ⟨fun p => cell p.1 p.2.1 p.2.2, fun _ _ h => Prod.ext (cell_inj h).1 (Prod.ext (cell_inj h).2.1 (cell_inj h).2.2)⟩
abbrev barCells : Finset (GSem nD τ sig) := Finset.univ.map barEmb
abbrev xCells : Finset (GSem nD τ sig) := Finset.univ.map cellEmb

/-- A device's tokens: the two of its barrier cell, one per transfer cell. -/
def tokAt (c : Dev nD) : Bool ⊕ (Fin 6 × Fin 8) → GSem nD τ sig × ℕ × Bool
  | .inl b => (barCell c, 0, b)
  | .inr p => (cell c p.1 p.2, 0, false)
theorem tokAt_inj : Function.Injective fun p : Dev nD × (Bool ⊕ (Fin 6 × Fin 8)) => tokAt p.1 p.2 := by
  rintro ⟨c, b | p⟩ ⟨c', b' | p'⟩ h
  · have h1 : c = c' := congrArg (fun t : GSem nD τ sig × ℕ × Bool => t.1.1.1) h
    have h2 : b = b' := congrArg (fun t : GSem nD τ sig × ℕ × Bool => t.2.2) h
    rw [h1, h2]
  · exact absurd (congrArg Prod.fst h).symm (cell_ne_bar c' c p'.1 p'.2)
  · exact absurd (congrArg Prod.fst h) (cell_ne_bar c c' p.1 p.2)
  · have h1 := cell_inj (congrArg Prod.fst h : cell c p.1 p.2 = cell c' p'.1 p'.2)
    exact Prod.ext h1.1 (congrArg Sum.inr (Prod.ext h1.2.1 h1.2.2))
def tokens : Finset (GSem nD τ sig × ℕ × Bool) := Finset.univ.map ⟨_, tokAt_inj⟩

theorem disjoint_cells : Disjoint (barCells : Finset (GSem nD τ sig)) xCells := by
  rw [Finset.disjoint_left]
  rintro g h₁ h₂
  obtain ⟨c, -, rfl⟩ := Finset.mem_map.mp h₁
  obtain ⟨p, -, h⟩ := Finset.mem_map.mp h₂
  exact cell_ne_bar _ _ _ _ h

/-- The launch element: the pipeline library's and the protocol's. -/
def u₀ : UU :=
  (initOf (Pipeline.cells cfgs cellOf_inj) (Pipeline.launchToks cfgs cellOf_inj), launchOf barCells xCells tokens)

/-- The protocol's, all of it on device 0 until it is dealt. -/
def G (c : Dev nD) : sProp 𝕄 := if c = 0 then BI.own (ER (launchOf barCells xCells tokens)) else iprop(emp)
theorem bigSep_G : bigSep Finset.univ (G (F := F)) = BI.own (ER (launchOf barCells xCells tokens)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## Dealing -/

/-- A family over the six arrays and the eight heads, head by head. -/
theorem by_head (B : Fin 6 → Fin 8 → sProp 𝕄) : bigSep Finset.univ (fun p : Fin 6 × Fin 8 => B p.1 p.2)
    = all8 fun i => iprop(B 0 i ∗ B 1 i ∗ B 2 i ∗ B 3 i ∗ B 4 i ∗ B 5 i) := by
  rw [bigSep_univ_prod]
  unfold all8
  rw [six fun k => bigSep Finset.univ fun i => B k i]
  simp only [bigSep_sep']

abbrev tok (c : Dev nD) (k : Fin 6) (i : Fin 8) : sProp 𝕄 := dutyTok ER (cell c k i) 0 false
abbrev bar (c : Dev nD) (b : Bool) : sProp 𝕄 := dutyTok ER (barCell c) 0 b

theorem two (B : Bool → sProp 𝕄) : bigSep Finset.univ B = iprop(B false ∗ B true) := by
  rw [bigSep_univ_eq_bigSepL [false, true] (by decide) (by decide), bigSepL_cons_cons, bigSepL_singleton]; rfl

/-- What the device pays: the two barrier duties and each head's six. -/
def pays : sProp 𝕄 :=
  iprop((bar (F := F) (yp c) false ∗ bar (F := F) (xp c) true)
    ∗ all8 fun i => iprop(tok (F := F) c 0 i ∗ tok (F := F) (yp c) 1 i ∗ tok (F := F) c 2 i ∗ tok (F := F) (yp c) 3 i ∗ tok (F := F) c 4 i ∗ tok (F := F) (xp c) 5 i))

/-- Every token reaches the device that pays its duty. -/
theorem deal_tokens : bigSep tokens (fun x => (dutyTok ER x.1 x.2.1 x.2.2 : sProp 𝕄)) = bigSep Finset.univ (pays (F := F)) := by
  have h : bigSep tokens (fun x => (dutyTok ER x.1 x.2.1 x.2.2 : sProp 𝕄)) = bigSep Finset.univ fun c : Dev nD =>
      iprop((bar (F := F) c false ∗ bar (F := F) c true)
        ∗ all8 fun i => iprop(tok (F := F) c 0 i ∗ tok (F := F) c 1 i ∗ tok (F := F) c 2 i ∗ tok (F := F) c 3 i ∗ tok (F := F) c 4 i ∗ tok (F := F) c 5 i)) := by
    unfold tokens
    rw [bigSep_map, bigSep_univ_prod]
    refine bigSep_congr fun c _ => ?_
    rw [bigSep_univ_sum]
    exact congrArg₂ BI.sep (two fun b => bar (F := F) c b) (by_head fun k i => tok (F := F) c k i)
  rw [h]
  unfold pays all8
  simp only [bigSep_sep']
  rw [bigSep_univ_equiv yRing (fun c : Dev nD => bar (F := F) c false), bigSep_univ_equiv xRing (fun c : Dev nD => bar (F := F) c true),
    bigSep_univ_equiv yRing (fun c : Dev nD => bigSep Finset.univ fun i : Fin 8 => tok (F := F) c 1 i),
    bigSep_univ_equiv yRing (fun c : Dev nD => bigSep Finset.univ fun i : Fin 8 => tok (F := F) c 3 i),
    bigSep_univ_equiv xRing (fun c : Dev nD => bigSep Finset.univ fun i : Fin 8 => tok (F := F) c 5 i)]
  rfl

/-- The rights to open, on their devices. -/
theorem deal_open : bigSep xCells (fun g => (openTok ER g : sProp 𝕄)) = bigSep Finset.univ fun c : Dev nD => all8 fun i =>
    iprop(openTok ER (cell c 0 i) ∗ openTok ER (cell c 1 i) ∗ openTok ER (cell c 2 i) ∗ openTok ER (cell c 3 i) ∗ openTok ER (cell c 4 i) ∗ openTok ER (cell c 5 i)) := by
  rw [bigSep_map, bigSep_univ_prod]
  exact bigSep_congr fun c _ => by_head fun k i => openTok ER (cell c k i)

/-! ## The launch credit -/

theorem owed_tally (g g' : GSem nD τ sig) (n : ℕ) : (tallyAt g' () n : CellTallies nD τ sig Unit) g () = if g = g' then n else 0 := by
  rw [tallyAt_apply]; exact if_congr ⟨fun h => h.1, fun h => ⟨h, rfl⟩⟩ rfl rfl
theorem cell_eq_iff (c c' : Dev nD) (k k' : Fin 6) (i i' : Fin 8) : cell c k i = cell c' k' i' ↔ (c = c' ∧ k = k') ∧ i = i' :=
  ⟨fun h => ⟨⟨(cell_inj h).1, (cell_inj h).2.1⟩, (cell_inj h).2.2⟩, fun ⟨⟨h1, h2⟩, h3⟩ => by rw [h1, h2, h3]⟩

theorem Oo_cell (d c : Dev nD) (k : Fin 6) (i : Fin 8) : Oo d 0 (cell c k i) () = if c = xp d ∧ k = 5 then NB else 0 := by
  unfold Oo
  rw [Finset.sum_apply, Finsupp.finset_sum_apply]
  simp only [Nat.zero_le, if_true, owed_tally, cell_eq_iff]
  by_cases h : c = xp d ∧ k = 5
  · simp [h]
  · simp [h]
theorem Ok_cell (d c : Dev nD) (k : Fin 6) (i : Fin 8) :
    Ok d 0 (cell c k i) () = (if c = yp d ∧ k = 3 then NE else 0) + if c = yp d ∧ k = 1 then NB else 0 := by
  unfold Ok
  rw [Finset.sum_apply, Finsupp.finset_sum_apply]
  simp only [Nat.zero_le, if_true, Pi.add_apply, Finsupp.add_apply, owed_tally, cell_eq_iff, Finset.sum_add_distrib]
  congr 1
  · by_cases h : c = yp d ∧ k = 3
    · simp [h]
    · simp [h]
  · by_cases h : c = yp d ∧ k = 1
    · simp [h]
    · simp [h]
theorem Oo_bar (d c : Dev nD) : Oo d 0 (barCell c) () = 0 := by
  unfold Oo
  rw [Finset.sum_apply, Finsupp.finset_sum_apply]
  refine Finset.sum_eq_zero fun i _ => ?_
  rw [if_pos (Nat.zero_le _), owed_tally, if_neg fun h => cell_ne_bar _ _ _ _ h.symm]
theorem Ok_bar (d c : Dev nD) : Ok d 0 (barCell c) () = 0 := by
  unfold Ok
  rw [Finset.sum_apply, Finsupp.finset_sum_apply]
  refine Finset.sum_eq_zero fun i _ => ?_
  rw [if_pos (Nat.zero_le _), Pi.add_apply, Finsupp.add_apply, owed_tally, owed_tally, if_neg fun h => cell_ne_bar _ _ _ _ h.symm,
    if_neg fun h => cell_ne_bar _ _ _ _ h.symm]; rfl
theorem bar_eq_iff (c c' : Dev nD) : barCell c = barCell c' ↔ c = c' := ⟨fun h => barEmb.injective h, fun h => by rw [h]⟩

theorem owed_cell (d c : Dev nD) (k : Fin 6) (i : Fin 8) : O₀ d (cell c k i) ()
    = (if c = xp d ∧ k = 5 then NB else 0) + ((if c = yp d ∧ k = 3 then NE else 0) + if c = yp d ∧ k = 1 then NB else 0) := by
  unfold O₀ O₁ O₂
  simp only [Pi.add_apply, Finsupp.add_apply, owed_tally, Oo_cell, Ok_cell]
  rw [if_neg (cell_ne_bar _ _ _ _), if_neg (cell_ne_bar _ _ _ _)]; rfl
theorem owed_bar (d c : Dev nD) : O₀ d (barCell c) () = (if c = xp d then 1 else 0) + if c = yp d then 1 else 0 := by
  unfold O₀ O₁ O₂
  simp only [Pi.add_apply, Finsupp.add_apply, owed_tally, Oo_bar, Ok_bar, bar_eq_iff, Nat.zero_add]

theorem sum_yp (c : Dev nD) (n : ℕ) : (∑ d : Dev nD, if c = yp d then n else 0) = n := by
  rw [Finset.sum_congr rfl fun d _ => if_congr (show c = yp d ↔ d = yp c from ⟨fun h => by rw [h, yp_yp], fun h => by rw [h, yp_yp]⟩) rfl rfl,
    Finset.sum_ite_eq' Finset.univ (yp c) fun _ => n, if_pos (Finset.mem_univ _)]
theorem sum_xp (c : Dev nD) (n : ℕ) : (∑ d : Dev nD, if c = xp d then n else 0) = n := by
  rw [Finset.sum_congr rfl fun d _ => if_congr (show c = xp d ↔ d = xp c from ⟨fun h => by rw [h, xp_xp], fun h => by rw [h, xp_xp]⟩) rfl rfl,
    Finset.sum_ite_eq' Finset.univ (xp c) fun _ => n, if_pos (Finset.mem_univ _)]

theorem launch_at (g : GSem nD τ sig) (n : ℕ) (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem launch_bar (c : Dev nD) : (∑ d : Dev nD, O₀ d (barCell c) ()) = 2 := by
  rw [Finset.sum_congr rfl fun d _ => owed_bar d c, Finset.sum_add_distrib, sum_xp, sum_yp]
theorem launch_1 (c : Dev nD) (i : Fin 8) : (∑ d : Dev nD, O₀ d (cell c 1 i) ()) = NB := by
  rw [Finset.sum_congr rfl fun d _ => (owed_cell d c 1 i).trans (show _ = if c = yp d then NB else 0 by simp), sum_yp]
theorem launch_3 (c : Dev nD) (i : Fin 8) : (∑ d : Dev nD, O₀ d (cell c 3 i) ()) = NE := by
  rw [Finset.sum_congr rfl fun d _ => (owed_cell d c 3 i).trans (show _ = if c = yp d then NE else 0 by simp), sum_yp]
theorem launch_5 (c : Dev nD) (i : Fin 8) : (∑ d : Dev nD, O₀ d (cell c 5 i) ()) = NB := by
  rw [Finset.sum_congr rfl fun d _ => (owed_cell d c 5 i).trans (show _ = if c = xp d then NB else 0 by simp), sum_xp]

/-- A head's three credits. -/
def headCr (i : Fin 8) : sProp 𝕄 := iprop(cred (tallyAt (cell c 1 i) () NB) ∗ cred (tallyAt (cell c 3 i) () NE) ∗ cred (tallyAt (cell c 5 i) () NB))

def semEmb : Fin 6 × Fin 8 ↪ SemLoc sig := ⟨fun p => .dma (dS p.1 p.2), fun _ _ h => Prod.ext (dS_inj (SemLoc.dma.inj h)).1 (dS_inj (SemLoc.dma.inj h)).2⟩

theorem creds : (Pipeline.launchCred O₀ c : sProp 𝕄) ⊢ iprop(cred (tallyAt (barCell c) () 2) ∗ all8 (headCr (F := F) c)) := by
  unfold Pipeline.launchCred
  rw [bigSep_univ_at _ (SemLoc.reg barS), launch_at _ _ (launch_bar c)]
  refine sep_mono_right ?_
  refine (bigSep_subset (t := Finset.univ.map semEmb) fun sm h => ?_).trans ?_
  · obtain ⟨p, -, rfl⟩ := Finset.mem_map.mp h
    exact Finset.mem_erase.mpr ⟨fun h => (by cases h), Finset.mem_univ _⟩
  rw [bigSep_map]
  refine (Entails.of_eq (by_head fun k i => cred (tallyOn (cell c k i) (launchCredit (Pipeline.owing O₀) 0 (cell c k i))))).trans ?_
  have h : ∀ i, iprop(cred (tallyOn (cell c 0 i) (launchCredit (Pipeline.owing O₀) 0 (cell c 0 i)))
      ∗ cred (tallyOn (cell c 1 i) (launchCredit (Pipeline.owing O₀) 0 (cell c 1 i)))
      ∗ cred (tallyOn (cell c 2 i) (launchCredit (Pipeline.owing O₀) 0 (cell c 2 i)))
      ∗ cred (tallyOn (cell c 3 i) (launchCredit (Pipeline.owing O₀) 0 (cell c 3 i)))
      ∗ cred (tallyOn (cell c 4 i) (launchCredit (Pipeline.owing O₀) 0 (cell c 4 i)))
      ∗ cred (tallyOn (cell c 5 i) (launchCredit (Pipeline.owing O₀) 0 (cell c 5 i)))) ⊢ headCr (F := F) c i := fun i => by
    rw [launch_at _ _ (launch_1 c i), launch_at _ _ (launch_3 c i), launch_at _ _ (launch_5 c i)]
    unfold headCr
    iintro ⟨-, H1, -, H3, -, H5⟩
    isplitl [H1]; · iexact H1
    isplitl [H3] <;> iassumption
  exact bigSep_mono fun i _ => h i

/-! ## The whole, device by device -/

/-- What every device may consult. -/
def records (K : GSem nD τ sig → ℕ) : sProp 𝕄 := iprop(Inv (X m) K ∗ bigSep Finset.univ fun c : Dev nD => reached ER (barCell c) 0)
instance records_persistent (K : GSem nD τ sig → ℕ) : BI.Persistent (records m K) := by unfold records; infer_instance
/-- What a device holds alone. -/
def alone : sProp 𝕄 :=
  iprop(atPos ER (barCell c) 0 ∅ 0
    ∗ (all8 fun i => iprop(openTok ER (cell c 0 i) ∗ openTok ER (cell c 1 i) ∗ openTok ER (cell c 2 i) ∗ openTok ER (cell c 3 i) ∗ openTok ER (cell c 4 i) ∗ openTok ER (cell c 5 i)))
    ∗ pays (F := F) c ∗ (cred (tallyAt (barCell c) () 2) ∗ all8 (headCr (F := F) c)))

theorem Tk_intro (K : GSem nD τ sig → ℕ) : iprop(records m K ∗ alone (F := F) c) ⊢ Tk m c := by
  have hr : ∀ c : Dev nD, (bigSep Finset.univ fun c : Dev nD => (reached ER (barCell c) 0 : sProp 𝕄)) ⊢ reached ER (barCell c) 0 :=
    fun c => bigSep_elim (Finset.mem_univ c)
  have hh : iprop((all8 fun i => iprop(openTok ER (cell c 0 i) ∗ openTok ER (cell c 1 i) ∗ openTok ER (cell c 2 i) ∗ openTok ER (cell c 3 i) ∗ openTok ER (cell c 4 i) ∗ openTok ER (cell c 5 i)))
      ∗ (all8 fun i => iprop(tok (F := F) c 0 i ∗ tok (F := F) (yp c) 1 i ∗ tok (F := F) c 2 i ∗ tok (F := F) (yp c) 3 i ∗ tok (F := F) c 4 i ∗ tok (F := F) (xp c) 5 i))
      ∗ all8 (headCr (F := F) c)) ⊢ all8 (headTk (F := F) c) := by
    unfold all8
    rw [← bigSep_sep', ← bigSep_sep']
    exact .rfl
  unfold records alone pays Tk barGh
  iintro ⟨⟨#HI, #HR⟩, Hat, Hop, ⟨⟨Ty, Tx⟩, HT⟩, Hcb, Hc⟩
  iexists K
  isplitr; · iexact HI
  isplitl [Hat Hcb Ty Tx]
  · isplitl [Hat]; · iexact Hat
    isplitl [Hcb]; · iexact Hcb
    isplitl [Ty]; · iexact Ty
    isplitr; · iapply (hr (yp c)); iexact HR
    isplitl [Tx]; · iexact Tx
    iapply (hr (xp c)); iexact HR
  iapply hh
  isplitl [Hop]; · iexact Hop
  isplitl [HT] <;> iassumption

theorem records_intro (K : GSem nD τ sig → ℕ) :
    iprop(levAts L lv ∗ bigSep (barCells ∪ xCells) (fun g => cellInv ER (rd (X m)) (K g) g) ∗ bigSep barCells (fun g => reached ER g 0))
      ⊢ records m K := by
  rw [show (bigSep (barCells ∪ xCells) (fun g => (cellInv ER (rd (X m)) (K g) g : sProp 𝕄))) = iprop(bigSep barCells (fun g => cellInv ER (rd (X m)) (K g) g)
    ∗ bigSep xCells (fun g => cellInv ER (rd (X m)) (K g) g)) from bigSep_union disjoint_cells, bigSep_map, bigSep_map, bigSep_map]
  unfold records Inv
  iintro ⟨Hl, ⟨Hb, Hx⟩, Hr⟩
  isplitr [Hr]
  · isplitl [Hl]; · iexact Hl
    isplitl [Hx]; · iexact Hx
    iexact Hb
  iexact Hr

end Cert.KernelIdeal.Attn

end
-- ==== Proof.Launched.lean ====
/- The run: from any memory with zero counters @main terminates, every buffer holding what the valuations say and every
   counter at zero. -/
module

public import proofs.«01_k».proof.Proof.Ghost
public import Idealize.ShloMosaic.Lib.Quiescent

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)
open Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg) (c : Dev nD)

theorem unscoped_eq : ∀ sm : SemLoc sig, sm.isScoped .tc = false → sm = .reg barS := by decide
theorem unscopedSems_eq : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What a device starts from, and ends at. -/
abbrev T₀ (c : Dev nD) : sProp 𝕄 := iprop(StableHlo.held (c : Thread nD τ) (Pipeline.ucRefs τ sig) (V0 m c) ∗ E m 0 c)
abbrev Tₙ (c : Dev nD) : sProp 𝕄 := iprop(StableHlo.held (c : Thread nD τ) (Pipeline.ucRefs τ sig) (V3 m (outs m) c) ∗ semVal (barCell c) 0)

/-- What of a device's launch holdings is not the protocol's. -/
def bundle (c : Dev nD) : sProp 𝕄 :=
  iprop(StableHlo.held (c : Thread nD τ) (Pipeline.ucRefs τ sig) (V0 m c) ∗ owes (c : Thread nD τ) (O₀ c) ∅ ∗ ∃ r, prngReg c r)

theorem bigSep_unpair {Φ Ψ : Dev nD → sProp 𝕄} :
    (bigSep Finset.univ fun c => iprop(Φ c ∗ Ψ c)) ⊢ iprop(bigSep Finset.univ Φ ∗ bigSep Finset.univ Ψ) := Entails.of_eq (bigSep_sep' ..)
theorem bigSep_pair {Φ Ψ : Dev nD → sProp 𝕄} :
    iprop(bigSep Finset.univ Φ ∗ bigSep Finset.univ Ψ) ⊢ bigSep Finset.univ fun c => iprop(Φ c ∗ Ψ c) := Entails.of_eq (bigSep_sep' ..).symm

theorem T₀_intro (K : GSem nD τ sig → ℕ) : iprop(records m K ∗ (alone (F := F) c ∗ bundle m c)) ⊢ T₀ m c := by
  unfold bundle T₀ E
  iintro ⟨#HR, Hl, Hh, HO, Hp⟩
  isplitl [Hh]; · iexact Hh
  isplitl [Hl]
  · iapply (Tk_intro m c K)
    isplitr; · iexact HR
    iexact Hl
  isplitl [HO]; · iexists ∅; iexact HO
  iexact Hp

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ iprop(|={Set.univ}=> bigSep Finset.univ (T₀ m)) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G (F := F) c)
      ⊢ iprop(bundle m c ∗ (semVal (barCell c) 0 ∗ (G (F := F) c ∗ (cred (tallyAt (barCell c) () 2) ∗ all8 (headCr (F := F) c))))) := by
    rw [show unscopedBufs c (fun b => m ((c : Thread nD τ).loc b)) = StableHlo.held (c : Thread nD τ) (Pipeline.ucRefs τ sig) (V0 m c) from
        Pipeline.unscopedBufs_held c (V0 m c), unscopedSems_eq]
    unfold bundle
    iintro ⟨Hh, Hus, HO, Hcr, Hp, HG⟩
    ihave Hc := (creds (F := F) c) $$ Hcr
    isplitl [Hh HO Hp]
    · isplitl [Hh]; · iexact Hh
      isplitl [HO]; · iexact HO
      iexists (ρ c); iexact Hp
    isplitl [Hus]; · iexact Hus
    isplitl [HG] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  iintro ⟨H, #Hlev⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (bigSep Finset.univ fun c : Dev nD => iprop(bundle m c ∗ (semVal (barCell c) 0 ∗ (G (F := F) c ∗ (cred (tallyAt (barCell c) () 2) ∗ all8 (headCr (F := F) c))))))
      from bigSep_mono fun c _ => hcore c) $$ H
  ihave H2 := bigSep_unpair $$ H'; icases H2 with ⟨HB, H3⟩
  ihave H4 := bigSep_unpair $$ H3; icases H4 with ⟨Hv, H5⟩
  ihave H6 := bigSep_unpair $$ H5; icases H6 with ⟨HG, HC⟩
  ihave Hu := (show bigSep Finset.univ (G (F := F)) ⊢ BI.own (ER (launchOf barCells xCells tokens)) from Entails.of_eq (bigSep_G (F := F))) $$ HG
  imod (Rounds.fund_launch ER (rd (X m)) disjoint_cells (fun g _ h => h) tokens) $$ [Hv Hu] with ⟨%K, -, Hinv, Hr, Hat, Hopen, Htok⟩
  · isplitl [Hv]
    · iapply hv $$ Hv
    · iexact Hu
  imodintro
  iapply (bigSep_with_persistent (R := records m K) (Φ := fun c => iprop(alone (F := F) c ∗ bundle m c)) fun c _ => T₀_intro m c K)
  isplitl [Hinv Hr]
  · iapply (records_intro m K)
    isplitr; · iexact Hlev
    isplitl [Hinv] <;> iassumption
  iapply bigSep_pair
  isplitr [HB]
  · unfold alone
    iapply bigSep_pair; isplitl [Hat]; · iapply hat $$ Hat
    iapply bigSep_pair; isplitl [Hopen]; · iapply (Entails.of_eq (deal_open (F := F))) $$ Hopen
    iapply bigSep_pair; isplitl [Htok]; · iapply (Entails.of_eq (deal_tokens (F := F))) $$ Htok
    iexact HC
  · iexact HB

theorem mem_uc (r : Ref sig .tc) (h : ¬ (Proc.devRef .tc r : DevRef τ sig).isScoped = true) : (Proc.devRef .tc r : DevRef τ sig) ∈ Pipeline.ucRefs τ sig :=
  Finset.mem_filter.mpr ⟨StableHlo.devRef_mem_tcRefs r, h⟩

set_option backward.isDefEq.respectTransparency.types false in
/-- Every weakly fair execution of @main terminates; then each device's arguments are as launched, its result is the last
    valuation's, and every counter of the machine reads zero. -/
theorem run_main : θ_run defs (onTc (τ := τ) (main (F := F))) ⟨m, fun _ => 0, ρ⟩ (fun r =>
    (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v28) = V3 m (outs m) c main_v28) ∧ r.2.sem = fun _ => 0) :=
  Pipeline.θ_run_regions_kit_dev_sems (pcfgs (F := F)) adm (pdats m) () cellOf_inj EP defs₀ 𝒱₀ L lv m ρ main
    (segs m (outs m) 𝒱₀ L lv (E m) () (pdats m) (reg m))
    (fun c Q => by
      rewrite [main_chain c, Seg.run_eq_chain,
        show (segs m (outs m) 𝒱₀ L lv (E m) () (pdats m) (reg m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) O₀ L_of_ne (G (F := F)) u₀
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tₙ m)
    (hch := fun c => ⟨.rfl, reg_pre m c, reg_post m c, by
      show iprop(StableHlo.held (c : Thread nD τ) (Pipeline.ucRefs τ sig) (V3 m (outs m) c) ∗ E m 1 c)
        ⊢ iprop(Tₙ m c ∗ ∃ W, owes (c : Thread nD τ) (0 : CellTallies nD τ sig Unit) W)
      unfold E
      iintro ⟨Hh, Hb, HO⟩
      isplitr [HO]
      · isplitl [Hh] <;> iassumption
      iexact HO⟩)
    (hinit := init m ρ)
    (QY := fun c s => ((s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
      ∧ s.mem ((c.tc : Thread nD τ).loc main_v28) = V3 m (outs m) c main_v28) ∧ s.sem (barCell c) = 0)
    (hfin := fun c s' => by
      unfold Tₙ StableHlo.held
      iintro ⟨⟨Hh, Hb0⟩, HSI⟩
      icombine HSI Hb0 gives %hb
      ihave Hr := (pointsTo_read_all (Pipeline.ucRefs τ sig) (fun b => ((c : Thread nD τ).1, b)) (V3 m (outs m) c) s') $$ [Hh HSI]
      · isplitl [Hh] <;> iassumption
      icases Hr with ⟨%h, HSI⟩
      imodintro
      isplitr
      · ipureintro
        exact ⟨⟨⟨(h (Proc.devRef .tc main_arg0) (mem_uc main_arg0 (by decide))).trans (V3_main_arg0 m (outs m) c),
          (h (Proc.devRef .tc main_arg1) (mem_uc main_arg1 (by decide))).trans (V3_main_arg1 m (outs m) c),
          (h (Proc.devRef .tc main_arg2) (mem_uc main_arg2 (by decide))).trans (V3_main_arg2 m (outs m) c)⟩,
          h (Proc.devRef .tc main_v28) (mem_uc main_v28 (by decide))⟩, by simpa using hb⟩
      · iexact HSI)
    (hQ := fun s h hs => ⟨fun c => (h c).1, sem_eq_zero hs fun c sm hsm => by
      obtain rfl := unscoped_eq sm hsm
      exact (h c).2⟩)

end Cert.KernelIdeal.Attn

end
-- ==== Proof.Printed.lean ====
/- The printed kernel and its idealized twin have one text: at the bits, with each named constant read as the bits it was
   rounded to, they are the same program. So the frame of the twin, proved at any float values, is the printed kernel's. -/
module

public import proofs.«01_k».proof.Defs
public import proofs.«01_k».proof.Kernel
public import proofs.«01_k».proof.KernelIdeal
public import proofs.«01_k».proof.Proof.Gen.Kernel
public import proofs.«01_k».proof.Proof.Launched

@[expose] public section

set_option maxRecDepth 65536

noncomputable section

namespace Cert.Printed

open Idealize.ShloMosaic Idealize.SL.Sem

/-- A named constant is the bits it was rounded to. -/
@[reducible] def litNamed : Named Bits := ⟨fun _ _ _ b => Scalar.ofBits _ b⟩

attribute [local instance] litNamed

theorem main_eq : Cert.Kernel.main (F := Bits) = Cert.KernelIdeal.main (F := Bits) := rfl

theorem defs₀_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

theorem defs_eq : Cert.Kernel.defs (F := Bits) = Cert.KernelIdeal.defs (F := Bits) :=
  congrArg (Pipeline.defs Cert.KernelIdeal.pcfgs) defs₀_eq

theorem frame : quiescent_Kernel := by
  intro m g _
  have h := (θ_run _ _ _).mono (fun r (h : _ ∧ _) => (⟨fun c => (h.1 c).1, h.2⟩ : _ ∧ _)) (Cert.KernelIdeal.Attn.run_main (F := Bits) m g)
  rw [← defs_eq] at h
  exact h

end Cert.Printed

end
-- ==== Proof.Softmax.lean ====
/- The mathematics of the softmax, with no program in it: scores are real, values any extended reals. Weights that are
   exponentials of the scores, summed and divided once, give what shifted exponentials divided one by one give; the largest of
   finitely many reals is real; and a sum over all keys is the sum over a device's half of them and the other half. -/
module

public import Idealize.ShloMosaic.Lib.Pointwise

@[expose] public section

noncomputable section

namespace Cert.Softmax

open Idealize.ShloMosaic

/-- A sum of reals is the same sum in the extended reals. -/
theorem sum_coe {ι : Type} (S : Finset ι) (f : ι → ℝ) : ∑ k ∈ S, ((f k : ℝ) : EReal) = ((∑ k ∈ S, f k : ℝ) : EReal) := by
  classical
  induction S using Finset.induction_on with
  | empty => simp
  | insert a S h ih => rw [Finset.sum_insert h, Finset.sum_insert h, ih, EReal.coe_add]

/-- A real factor that is not negative goes into a sum of extended reals. -/
theorem sum_mul_coe {ι : Type} (S : Finset ι) (f : ι → EReal) (r : ℝ) (hr : 0 ≤ r) :
    (∑ k ∈ S, f k) * (r : EReal) = ∑ k ∈ S, f k * (r : EReal) := by
  classical
  induction S using Finset.induction_on with
  | empty => simp
  | insert a S h ih =>
    rw [Finset.sum_insert h, Finset.sum_insert h, ← ih, EReal.right_distrib_of_nonneg_of_ne_top (EReal.coe_nonneg.mpr hr) (EReal.coe_ne_top r)]

/-- Dividing by a real that is not zero is multiplying by its inverse. -/
theorem div_coe (x : EReal) (r : ℝ) (hr : r ≠ 0) : Ideal.div x (r : EReal) = x * ((r⁻¹ : ℝ) : EReal) := by
  unfold Ideal.div
  rw [if_neg (by exact_mod_cast hr), EReal.coe_inv]

theorem exp_coe (r : ℝ) : Ideal.exp (r : EReal) = ((Real.exp r : ℝ) : EReal) := rfl

/-- The unshifted softmax, divided once, is the shifted one, divided key by key. -/
theorem shift {ι : Type} [Fintype ι] [Nonempty ι] (s : ι → ℝ) (m : ℝ) (v : ι → EReal) :
    Ideal.div (∑ k, Ideal.exp (s k : EReal) * v k) (∑ k, Ideal.exp (s k : EReal))
      = ∑ k, v k * Ideal.div (Ideal.exp ((s k : EReal) - (m : EReal))) (∑ j, Ideal.exp ((s j : EReal) - (m : EReal))) := by
  have hZ : 0 < ∑ k, Real.exp (s k) := Finset.sum_pos (fun k _ => Real.exp_pos _) Finset.univ_nonempty
  have hW : ∑ j, Real.exp (s j - m) = (∑ j, Real.exp (s j)) * Real.exp (-m) := by
    rw [Finset.sum_mul]
    exact Finset.sum_congr rfl fun j _ => by rw [← Real.exp_add, sub_eq_add_neg]
  have hW0 : 0 < ∑ j, Real.exp (s j - m) := by rw [hW]; exact mul_pos hZ (Real.exp_pos _)
  simp only [← EReal.coe_sub, exp_coe]
  rw [sum_coe, sum_coe, div_coe _ _ hZ.ne', sum_mul_coe _ _ _ (inv_nonneg.mpr hZ.le)]
  refine Finset.sum_congr rfl fun k _ => ?_
  rw [div_coe _ _ hW0.ne', ← EReal.coe_mul, mul_comm _ (v k), mul_assoc, ← EReal.coe_mul]
  congr 2
  rw [hW, sub_eq_add_neg, Real.exp_add, mul_inv]
  field_simp

/-- The largest of finitely many reals, over a start below them all, is real. -/
theorem fold_max_real {ι : Type} [Fintype ι] [Nonempty ι] (s : ι → ℝ) :
    ∃ m : ℝ, (Finset.univ : Finset ι).fold max (⊥ : EReal) (fun k => (s k : EReal)) = (m : EReal) := by
  classical
  have h : ∀ S : Finset ι, S = ∅ ∨ ∃ m : ℝ, S.fold max (⊥ : EReal) (fun k => (s k : EReal)) = (m : EReal) := by
    intro S
    induction S using Finset.induction_on with
    | empty => exact Or.inl rfl
    | insert a S h ih =>
      refine Or.inr ?_
      rw [Finset.fold_insert h]
      rcases ih with rfl | ⟨m, hm⟩
      · exact ⟨s a, by simp⟩
      · exact ⟨max (s a) m, by rw [hm]; exact (EReal.coe_strictMono.monotone.map_max).symm⟩
  exact (h Finset.univ).resolve_left Finset.univ_nonempty.ne_empty

/-- Row `k` of half `b` of 2048 rows. -/
def row (b : ℕ) (k : Fin 1024) : Fin 2048 := ⟨1024 * (b % 2) + k.val, by have := k.isLt; omega⟩

/-- A sum over all rows is the sum over a half and the other half. -/
theorem sum_halves (b : ℕ) (f : Fin 2048 → EReal) : ∑ k, f k = ∑ k, f (row b k) + ∑ k, f (row (b + 1) k) := by
  have h : ∑ k, f k = ∑ k, f (row 0 k) + ∑ k, f (row 1 k) := by
    rw [show (∑ k : Fin 2048, f k) = ∑ k : Fin (1024 + 1024), f k from rfl, Fin.sum_univ_add]
    refine congrArg₂ (· + ·) (Finset.sum_congr rfl fun k _ => congrArg f (Fin.ext ?_)) (Finset.sum_congr rfl fun k _ => congrArg f (Fin.ext ?_))
    · show k.val = 1024 * (0 % 2) + k.val; omega
    · show 1024 + k.val = 1024 * (1 % 2) + k.val; omega
  rcases Nat.mod_two_eq_zero_or_one b with e | e
  · have h0 : row b = row 0 := funext fun k => Fin.ext (by show 1024 * (b % 2) + k.val = 1024 * (0 % 2) + k.val; omega)
    have h1 : row (b + 1) = row 1 := funext fun k => Fin.ext (by show 1024 * ((b + 1) % 2) + k.val = 1024 * (1 % 2) + k.val; omega)
    rw [h, h0, h1]
  · have h0 : row b = row 1 := funext fun k => Fin.ext (by show 1024 * (b % 2) + k.val = 1024 * (1 % 2) + k.val; omega)
    have h1 : row (b + 1) = row 0 := funext fun k => Fin.ext (by show 1024 * ((b + 1) % 2) + k.val = 1024 * (0 % 2) + k.val; omega)
    rw [h, h0, h1, add_comm]

/-- The softmax scale. -/
def σ : ℝ := (Real.sqrt 128)⁻¹

/-- A query row's score against a key row. -/
def score (q k : Fin 128 → ℝ) : ℝ := (∑ d, q d * k d) * σ

/-- The score with the scale put on the query. -/
theorem score_scaled (q k : Fin 128 → ℝ) : ∑ d, ((q d : EReal) * (σ : EReal)) * (k d : EReal) = (score q k : EReal) := by
  simp only [← EReal.coe_mul]
  rw [sum_coe, score, Finset.sum_mul]
  exact congrArg _ (Finset.sum_congr rfl fun d _ => by ring)

/-- The score with the scale put on the sum. -/
theorem score_plain (q k : Fin 128 → ℝ) : (∑ d, (q d : EReal) * (k d : EReal)) * (σ : EReal) = (score q k : EReal) := by
  simp only [← EReal.coe_mul]
  rw [sum_coe, ← EReal.coe_mul, score]

/-- Attention of one query row at one feature: `q` the row, `k` the keys, `v` the values' feature. -/
def attend (q : Fin 128 → ℝ) (k : Fin 2048 → Fin 128 → ℝ) (v : Fin 2048 → EReal) : EReal :=
  Ideal.div (∑ j, Ideal.exp (score q (k j) : EReal) * v j) (∑ j, Ideal.exp (score q (k j) : EReal))

theorem rsqrt_128 : Ideal.rsqrt (Ideal.ofBits .f32 0x43000000#32) = (σ : EReal) := by
  have h : Ideal.ofBits .f32 0x43000000#32 = ((128 : ℝ) : EReal) := by
    simp [Ideal.ofBits, Ideal.ieee, -EReal.coe_mul]; norm_num
  rw [h]
  show (if (128 : ℝ) < 0 then (⊥ : EReal) else if (128 : ℝ) = 0 then ⊤ else (((Real.sqrt 128)⁻¹ : ℝ) : EReal)) = _
  rw [if_neg (by norm_num), if_neg (by norm_num)]
  rfl

theorem ofBits_neg_inf : Ideal.ofBits .f32 0xFF800000#32 = ⊥ := by
  simp [Ideal.ofBits, Ideal.ieee]

theorem ofBits_inf : Ideal.ofBits .f32 0x7F800000#32 = ⊤ := by
  simp [Ideal.ofBits, Ideal.ieee]

end Cert.Softmax

end
-- ==== Proof.Finite.lean ====
/- What the precondition says of one device's blocks: every query entry and every key entry is a real number. -/
module

public import proofs.«01_k».proof.Defs
public import Idealize.ShloMosaic.Lib.ReduceAll
public import proofs.«01_k».proof.Proof.Softmax

@[expose] public section

noncomputable section

namespace Cert.Finite

open Idealize.ShloMosaic

instance kernelFacts : Cert.Pre_finite_qk_KernelIdeal.Facts where
  bitsLt_bf16_f32 := by decide
  bcast_S_S1x1024x16x128 := by decide
  reducesTo_S1x1024x16x128_S_d0_1_2_3 := by decide
  h_S_ := by decide

instance referenceFacts : Cert.Pre_finite_qk_ReferenceIdeal.Facts where
  bitsLt_bf16_f32 := by decide
  bcast_S_S1x2048x16x128 := by decide
  reducesTo_S1x2048x16x128_S_d0_1_2_3 := by decide
  h_S_ := by decide

/-- An extended real whose absolute value is below the infinity is real. -/
theorem real_of_lt (x : EReal) (h : Ideal.cmp .olt (max x (-x)) (Ideal.ofBits .f32 0x7F800000#32) = 1#1) : ∃ r : ℝ, x = (r : EReal) := by
  rw [Cert.Softmax.ofBits_inf] at h
  induction x using EReal.rec with
  | bot => simp [Ideal.cmp] at h
  | top => simp [Ideal.cmp] at h
  | coe r => exact ⟨r, rfl⟩

theorem and_one (a b : BitVec 1) (h : IntOp.andi a b = 1#1) : a = 1#1 ∧ b = 1#1 := by
  revert a b; decide

/-- Where the precondition holds of a device's blocks their query and key entries are real. -/
theorem of_pre (x0 x1 x2 : FVec Ideal Cert.Pre_finite_qk_KernelIdeal.S1x1024x16x128 .bf16)
    (h : Cert.Pre_finite_qk_KernelIdeal.fn (F := Ideal) x0 x1 x2 = fun _ => 1#1) :
    (∀ i, ∃ r : ℝ, x0 i = (r : EReal)) ∧ (∀ i, ∃ r : ℝ, x1 i = (r : EReal)) := by
  have e := congrFun h (fun a => a.elim0)
  obtain ⟨e0, e1⟩ := and_one _ _ e
  haveI : Subsingleton Cert.Pre_finite_qk_KernelIdeal.S_.Idx := ⟨fun a b => funext fun x => x.elim0⟩
  exact ⟨fun i => real_of_lt _ (Host.reduce_andi_all _ _ _ _ _ e0 i), fun i => real_of_lt _ (Host.reduce_andi_all _ _ _ _ _ e1 i)⟩

end Cert.Finite

end
-- ==== Proof.Frames.lean ====
/- The claims about each program alone: every run terminates, leaves its arguments as they were and every counter at zero. -/
module

public import proofs.«01_k».proof.Proof.Printed
public import proofs.«01_k».proof.Proof.Finite
public import proofs.«01_k».proof.Proof.Gen.ReferenceIdeal.Run

@[expose] public section

noncomputable section

namespace Cert.Frames

open Idealize.ShloMosaic Idealize.SL.Sem

theorem kernelIdeal : quiescent_KernelIdeal := fun m g _ =>
  (θ_run _ _ _).mono (fun _ h => ⟨fun c => (h.1 c).1, h.2⟩) (Cert.KernelIdeal.Attn.run_main (F := Ideal) m g)

theorem referenceIdeal : quiescent_ReferenceIdeal := fun m g _ =>
  (θ_run _ _ _).mono (fun r h => ⟨fun c => ⟨(h c).2.1, (h c).2.2.1, (h c).2.2.2⟩, sem_eq_zero_of_no_sems rfl r.2⟩)
    (Cert.ReferenceIdeal.Value.run (F := Ideal) m g)

theorem kernelIdeal_pre : quiescent_KernelIdeal_pre_finite_qk_KernelIdeal := fun m g _ => kernelIdeal m g trivial

theorem referenceIdeal_pre : quiescent_ReferenceIdeal_pre_finite_qk_ReferenceIdeal := fun m g _ => referenceIdeal m g trivial

theorem preserves : preserves_Kernel_KernelIdeal :=
  IdealRules.named_const.statement Cert.KernelIdeal.κ "s" .bf16 0x3DB5#16 (((Real.sqrt 128)⁻¹ : ℝ) : EReal) rfl

end Cert.Frames

end
-- ==== Proof.RefValue.lean ====
/- What the reference computes, at real queries and keys: each result entry is the attention of its query row. -/
module

public import proofs.«01_k».proof.Proof.Softmax
public import proofs.«01_k».proof.Proof.Gen.ReferenceIdeal.Read

@[expose] public section

noncomputable section

namespace Cert.ReferenceIdeal.Read

open Cert.ReferenceIdeal Cert.ReferenceIdeal.Gen Cert.Softmax Idealize.ShloMosaic Idealize.ShloMosaic.TcCoe

variable {x0 x1 : (⟨S1x2048x16x128, .bf16⟩ : BufTy).Contents (Elt Ideal)} {Q K : S1x2048x16x128.Idx → ℝ}

/-- A score. -/
theorem v5_real (hQ : ∀ i, x0 i = (Q i : EReal)) (hK : ∀ i, x1 i = (K i : EReal)) (h : Fin 16) (q k : Fin 2048) :
    val_main_v5 (F := Ideal) x0 x1 (ix4 0 h q k) = (score (fun d => Q (ix4 0 q h d)) (fun d => K (ix4 0 k h d)) : EReal) := by
  rw [val_main_v5_apply, val_main_v3_apply, val_main_v4_apply, val_main_v0_apply, val_main_cst_apply]
  rw [← score_plain, ← rsqrt_128]
  refine congrArg (· * _) (Finset.sum_congr rfl fun d _ => ?_)
  rw [val_main_v1_apply, val_main_v2_apply]
  refine congrArg₂ (fun a b : EReal => a * b) ((hQ _).trans ?_) ((hK _).trans ?_)
  · exact congrArg (fun i => ((Q i : ℝ) : EReal)) (funext fun a => by match a with | ⟨0, _⟩ => rfl | ⟨1, _⟩ => rfl | ⟨2, _⟩ => rfl | ⟨3, _⟩ => rfl)
  · exact congrArg (fun i => ((K i : ℝ) : EReal)) (funext fun a => by match a with | ⟨0, _⟩ => rfl | ⟨1, _⟩ => rfl | ⟨2, _⟩ => rfl | ⟨3, _⟩ => rfl)

/-- A row's largest score is real. -/
theorem v6_real (hQ : ∀ i, x0 i = (Q i : EReal)) (hK : ∀ i, x1 i = (K i : EReal)) (h : Fin 16) (q : Fin 2048) :
    ∃ m : ℝ, val_main_v6 (F := Ideal) x0 x1 (ix3 0 h q) = (m : EReal) := by
  obtain ⟨m, hm⟩ := fold_max_real (fun k : Fin 2048 => score (fun d => Q (ix4 0 q h d)) (fun d => K (ix4 0 k h d)))
  refine ⟨m, ?_⟩
  rw [← hm]
  unfold val_main_v6
  have e := Host.reduce_eq_fold_single (max : EReal → EReal → EReal) (val_main_v5 (F := Ideal) x0 x1) (val_main_cst_0 (F := Ideal))
    reducesTo_S1x16x2048x2048_S1x16x2048_d3 (by decide) h_S_ (ix3 0 h q)
  refine e.trans ?_
  rw [show val_main_cst_0 (F := Ideal) (Shape.Idx.first h_S_) = (⊥ : EReal) from ofBits_neg_inf]
  refine congrArg (fun f => Finset.fold max (⊥ : EReal) f Finset.univ) (funext fun k : Fin 2048 => ?_)
  refine Eq.trans ?_ (v5_real hQ hK h q k)
  exact congrArg (val_main_v5 (F := Ideal) x0 x1) (funext fun a => Fin.ext (by match a with | ⟨0, _⟩ => rfl | ⟨1, _⟩ => rfl | ⟨2, _⟩ => rfl | ⟨3, _⟩ => rfl))

/-- Each result entry. -/
theorem v17_real (hQ : ∀ i, x0 i = (Q i : EReal)) (hK : ∀ i, x1 i = (K i : EReal))
    (x2 : (⟨S1x2048x16x128, .bf16⟩ : BufTy).Contents (Elt Ideal)) (q : Fin 2048) (h : Fin 16) (d : Fin 128) :
    val_main_v17 (F := Ideal) x0 x1 x2 (ix4 0 q h d)
      = attend (fun e => Q (ix4 0 q h e)) (fun k e => K (ix4 0 k h e)) (fun k => x2 (ix4 0 k h d)) := by
  obtain ⟨m, hm⟩ := v6_real hQ hK h q
  have h10 : ∀ k, val_main_v10 (F := Ideal) x0 x1 (ix4 0 h q k)
      = Ideal.exp ((score (fun d => Q (ix4 0 q h d)) (fun d => K (ix4 0 k h d)) : EReal) - (m : EReal)) := fun k => by
    rw [val_main_v10_apply, val_main_v9_apply, v5_real hQ hK, val_main_v8_apply, val_main_v7_apply]
    rw [show idx_main_v7 (idx_main_v8 (ix4 0 h q k)) = ix3 0 h q from
      funext fun a => by match a with | ⟨0, _⟩ => rfl | ⟨1, _⟩ => rfl | ⟨2, _⟩ => rfl, hm]
    rfl
  have h13 : ∀ k, val_main_v13 (F := Ideal) x0 x1 (ix4 0 h q k)
      = ∑ j, Ideal.exp ((score (fun d => Q (ix4 0 q h d)) (fun d => K (ix4 0 j h d)) : EReal) - (m : EReal)) := fun k => by
    rw [val_main_v13_apply, val_main_v12_apply, val_main_v11_apply, val_main_cst_1_apply]
    rw [show (FloatOps.ofBits .f32 0x00000000#32 : Ideal .f32) = (0 : EReal) from Ideal.ofBits_zero_f32, zero_add]
    refine Finset.sum_congr rfl fun j _ => ?_
    rw [← h10 j]
    exact congrArg (val_main_v10 (F := Ideal) x0 x1) (funext fun a => by match a with | ⟨0, _⟩ => rfl | ⟨1, _⟩ => rfl | ⟨2, _⟩ => rfl | ⟨3, _⟩ => rfl)
  rw [attend, shift _ m, val_main_v17_apply, val_main_v16_apply]
  refine Finset.sum_congr rfl fun k _ => ?_
  refine congrArg₂ (fun a b : EReal => a * b) ?_ ?_
  · rw [val_main_v15_apply]
    exact congrArg x2 (funext fun a => by match a with | ⟨0, _⟩ => rfl | ⟨1, _⟩ => rfl | ⟨2, _⟩ => rfl | ⟨3, _⟩ => rfl)
  · rw [← h10 k, ← h13 k]
    exact congrArg (fun i => val_main_v14 (F := Ideal) x0 x1 i) (funext fun a => by match a with | ⟨0, _⟩ => rfl | ⟨1, _⟩ => rfl | ⟨2, _⟩ => rfl | ⟨3, _⟩ => rfl)

end Cert.ReferenceIdeal.Read

end
-- ==== Proof.HeadValue.lean ====
/- What one head's attention is over the extended reals, at an index. -/
module

public import proofs.«01_k».proof.Proof.Softmax
public import proofs.«01_k».proof.Proof.Schedule

@[expose] public section

set_option maxRecDepth 16384

noncomputable section

namespace Cert.KernelIdeal.Attn

open Cert.Softmax Cert.KernelIdeal.Gen Idealize.ShloMosaic Idealize.ShloMosaic.TcCoe

/-- The queries of a head, scaled. -/
theorem qs_apply (q : Vec Ideal S1024x1x128 .bf16) (r : Fin 1024) (d : Fin 128) :
    qs (F := Ideal) q (ix2 r d) = (q (ix3 r 0 d) : EReal) * (σ : EReal) := by
  have hs : (Named.named κ "s" 0x3DB5#16 : Ideal .bf16) = (σ : EReal) := IdealRules.named_const.ideal_named_scalar _ _ _ _ rfl
  unfold qs k0_pay1
  rw [hs]
  pointwise

/-- An exponential of a score. -/
theorem ex_apply (q : FVec Ideal S1024x128 .bf16) (k : Vec Ideal S1x1024x128 .bf16) (r j : Fin 1024) :
    ex (F := Ideal) q k (ix2 r j) = Ideal.exp (∑ d : Fin 128, (q (ix2 r d) : EReal) * (k (ix3 0 j d) : EReal)) := by
  unfold ex k0_pay6
  pointwise

theorem rs_apply (q : FVec Ideal S1024x128 .bf16) (k : Vec Ideal S1x1024x128 .bf16) (r : Fin 1024) :
    rs (F := Ideal) q k (ix2 r 0) = ∑ j : Fin 1024, (ex (F := Ideal) q k (ix2 r j) : EReal) := by
  show k0_pay7 q k (ix2 r 0) = ∑ j : Fin 1024, (k0_pay6 q k (ix2 r j) : EReal)
  unfold k0_pay7
  generalize k0_pay6 q k = e
  pointwise

theorem pv_apply (e : FVec Ideal S1024x1024 .f32) (v : Vec Ideal S1x1024x128 .bf16) (r : Fin 1024) (d : Fin 128) :
    k0_pay5 (F := Ideal) e v (ix2 r d) = ∑ j : Fin 1024, (e (ix2 r j) : EReal) * (v (ix3 0 j d) : EReal) := by
  unfold k0_pay5
  pointwise

theorem quot_apply (s s' : FVec Ideal S1024x1 .f32) (o : FVec Ideal S1024x128 .f32) (e : FVec Ideal S1024x1024 .f32)
    (v : Vec Ideal S1x1024x128 .fp8e4m3) (r : Fin 1024) (d : Fin 128) :
    k0_pay8 (F := Ideal) s o e s' v (ix2 r d)
      = Ideal.div ((o (ix2 r d) : EReal) + ∑ j : Fin 1024, (e (ix2 r j) : EReal) * (v (ix3 0 j d) : EReal)) ((s (ix2 r 0) : EReal) + (s' (ix2 r 0) : EReal)) := by
  unfold k0_pay8
  pointwise

theorem attO_apply (q : Vec Ideal S1024x1x128 .bf16) (k v ko : Vec Ideal S1x1024x128 .bf16) (vo : Vec Ideal S1x1024x128 .fp8e4m3)
    (r : Fin 1024) (d : Fin 128) : attO (F := Ideal) q k v ko vo (ix3 r 0 d) = att (F := Ideal) q k v ko vo (ix2 r d) := by
  unfold attO
  generalize att (F := Ideal) q k v ko vo = a
  pointwise

theorem attB_apply (q : Vec Ideal S1024x1x128 .bf16) (k v ko : Vec Ideal S1x1024x128 .bf16) (vo : Vec Ideal S1x1024x128 .fp8e4m3)
    (r : Fin 1024) (d : Fin 128) : attB (F := Ideal) q k v ko vo (ix3 0 r d) = att (F := Ideal) q k v ko vo (ix2 r d) := by
  unfold attB k0_pay10
  generalize att (F := Ideal) q k v ko vo = a
  pointwise

theorem twin_apply (o : Vec Ideal S1x1024x128 .bf16) (r : Fin 1024) (d : Fin 128) : twin (F := Ideal) o (ix3 r 0 d) = o (ix3 0 r d) := by
  unfold twin k0_pay78
  pointwise

end Cert.KernelIdeal.Attn

end
-- ==== Proof.HostValue.lean ====
/- What the host's operations around the region compute: the region's inputs are the device's column's eight heads of its
   argument blocks, and the result is what the region leaves. -/
module

public import proofs.«01_k».proof.Proof.Softmax
public import proofs.«01_k».proof.Proof.Record
public import Idealize.ShloMosaic.Lib.Pipeline.ValueKit

@[expose] public section

set_option maxRecDepth 16384

noncomputable section

namespace Cert.KernelIdeal.Attn

open Cert.KernelIdeal.Gen Idealize.ShloMosaic Idealize.ShloMosaic.TcCoe Idealize.SL.Sem

variable (m : (ℓ : Loc nD τ sig) → Buf (Elt Ideal) ℓ) (c : Dev nD)

/-- Head `h` of the eight that device `c`'s column computes, among all sixteen. -/
def headOf (h : Fin 8) : Fin 16 := ⟨8 * (c.val / 2) + h.val, by have : c.val < 4 := c.isLt; omega⟩

/-- Where the host cuts a device's heads out of its block. -/
def starts : Fin 3 → Int := ![0, 8 * (c.val / 2 : ℕ), 0]

/-- The number of a column's first head, as the host computes it from the device's number. -/
def firstHead : IVec S_ 32 :=
  muli (id (Host.remui (Host.divui (constantI S_ 32 (Dev.word c)) (constantI S_ 32 2#32)) (constantI S_ 32 2#32))) (constantI S_ 32 8#32)

theorem start_word (j : S_.Idx) :
    (select (cmpi .slt (firstHead c) (constantI S_ 32 0#32)) (addi (firstHead c) (constantI S_ 32 16#32)) (firstHead c) j).toInt
      = 8 * (c.val / 2 : ℕ) := by
  have h : ∀ c : Dev 4, (Scalar.select (IntOp.cmpi .slt (IntOp.muli ((Dev.word c / 2#32) % 2#32) 8#32) 0#32)
      (IntOp.addi (IntOp.muli ((Dev.word c / 2#32) % 2#32) 8#32) 16#32)
      (IntOp.muli ((Dev.word c / 2#32) % 2#32) 8#32)).toInt = 8 * ((c.val / 2 : ℕ) : Int) := by decide
  exact h c

/-- A device's heads of a block. -/
def mineCut (x : S1x1024x16x128.Idx → EReal) : S1024x8x128.Idx → EReal :=
  Host.dynamicSlice S1024x8x128 (shapeCast S1024x16x128 x shapeCasts_S1x1024x16x128_S1024x16x128) (starts c) sliceFits_S1024x16x128_S1024x8x128

theorem mineCut_apply (x : S1x1024x16x128.Idx → EReal) (r : Fin 1024) (h : Fin 8) (d : Fin 128) :
    mineCut c x (ix3 r h d) = x (ix4 0 r (headOf c h) d) := by
  have hc : c.val < 4 := c.isLt
  unfold mineCut
  rw [Host.dynamicSlice_apply]
  have h0 : Host.clampedStart S1024x16x128 S1024x8x128 rfl (starts c) 0 = 0 := Host.clampedStart_of_le _ _ _ _ rfl (by decide)
  have h1 : Host.clampedStart S1024x16x128 S1024x8x128 rfl (starts c) 1 = 8 * (c.val / 2) :=
    Host.clampedStart_of_le _ _ _ _ (by show (8 * (c.val / 2 : ℕ) : Int) = _; push_cast; rfl) (by show _ + 8 ≤ 16; omega)
  have h2 : Host.clampedStart S1024x16x128 S1024x8x128 rfl (starts c) 2 = 0 := Host.clampedStart_of_le _ _ _ _ rfl (by decide)
  refine (congrArg (shapeCast S1024x16x128 x shapeCasts_S1x1024x16x128_S1024x16x128)
    (show _ = ix3 r (headOf c h) d from funext fun a => Fin.ext ?_)).trans ?_
  · match a with
    | 0 => show Host.clampedStart S1024x16x128 S1024x8x128 rfl (starts c) 0 + r.val = r.val; rw [h0, Nat.zero_add]
    | 1 => show Host.clampedStart S1024x16x128 S1024x8x128 rfl (starts c) 1 + h.val = 8 * (c.val / 2) + h.val; rw [h1]
    | 2 => show Host.clampedStart S1024x16x128 S1024x8x128 rfl (starts c) 2 + d.val = d.val; rw [h2, Nat.zero_add]
  · pointwise

theorem v10_eq : V1 m c main_v10 = mineCut c (m (c.tc.loc main_arg0)) := by
  show StableHlo.after (hostOps0 c) (V0 m c) (Proc.devRef .tc main_v10) = _
  after_results
  refine congrArg (fun s => Host.dynamicSlice S1024x8x128 _ s sliceFits_S1024x16x128_S1024x8x128) (funext fun k => ?_)
  match k with
  | 0 =>
    change BitVec.toInt ((_ : Valuation τ sig (Elt Ideal)) (Proc.devRef .tc main_c_4) (Shape.Idx.first h_S_)) = _
    simp only [↓ StableHlo.readResult]
    rfl
  | 1 =>
    change BitVec.toInt ((_ : Valuation τ sig (Elt Ideal)) (Proc.devRef .tc main_v9) (Shape.Idx.first h_S_)) = _
    simp only [↓ StableHlo.readResult]
    exact start_word c _
  | 2 =>
    change BitVec.toInt ((_ : Valuation τ sig (Elt Ideal)) (Proc.devRef .tc main_c_5) (Shape.Idx.first h_S_)) = _
    simp only [↓ StableHlo.readResult]
    rfl

theorem v16_eq : V1 m c main_v16 = mineCut c (m (c.tc.loc main_arg1)) := by
  show StableHlo.after (hostOps0 c) (V0 m c) (Proc.devRef .tc main_v16) = _
  after_results
  refine congrArg (fun s => Host.dynamicSlice S1024x8x128 _ s sliceFits_S1024x16x128_S1024x8x128) (funext fun k => ?_)
  match k with
  | 0 =>
    change BitVec.toInt ((_ : Valuation τ sig (Elt Ideal)) (Proc.devRef .tc main_c_9) (Shape.Idx.first h_S_)) = _
    simp only [↓ StableHlo.readResult]
    rfl
  | 1 =>
    change BitVec.toInt ((_ : Valuation τ sig (Elt Ideal)) (Proc.devRef .tc main_v15) (Shape.Idx.first h_S_)) = _
    simp only [↓ StableHlo.readResult]
    exact start_word c _
  | 2 =>
    change BitVec.toInt ((_ : Valuation τ sig (Elt Ideal)) (Proc.devRef .tc main_c_10) (Shape.Idx.first h_S_)) = _
    simp only [↓ StableHlo.readResult]
    rfl

theorem v17_eq : V1 m c main_v17 = transpose S8x1024x128 [1, 0, 2] (mineCut c (m (c.tc.loc main_arg1))) transposes_S1024x8x128_S8x1024x128_1_0_2 := by
  rw [← v16_eq]
  show StableHlo.after (hostOps0 c) (V0 m c) (Proc.devRef .tc main_v17) = transpose S8x1024x128 [1, 0, 2]
    (StableHlo.after (hostOps0 c) (V0 m c) (Proc.devRef .tc main_v16)) transposes_S1024x8x128_S8x1024x128_1_0_2
  after_results

theorem v23_eq : V1 m c main_v23 = mineCut c (m (c.tc.loc main_arg2)) := by
  show StableHlo.after (hostOps0 c) (V0 m c) (Proc.devRef .tc main_v23) = _
  after_results
  refine congrArg (fun s => Host.dynamicSlice S1024x8x128 _ s sliceFits_S1024x16x128_S1024x8x128) (funext fun k => ?_)
  match k with
  | 0 =>
    change BitVec.toInt ((_ : Valuation τ sig (Elt Ideal)) (Proc.devRef .tc main_c_14) (Shape.Idx.first h_S_)) = _
    simp only [↓ StableHlo.readResult]
    rfl
  | 1 =>
    change BitVec.toInt ((_ : Valuation τ sig (Elt Ideal)) (Proc.devRef .tc main_v22) (Shape.Idx.first h_S_)) = _
    simp only [↓ StableHlo.readResult]
    exact start_word c _
  | 2 =>
    change BitVec.toInt ((_ : Valuation τ sig (Elt Ideal)) (Proc.devRef .tc main_c_15) (Shape.Idx.first h_S_)) = _
    simp only [↓ StableHlo.readResult]
    rfl

theorem v24_eq : V1 m c main_v24 = transpose S8x1024x128 [1, 0, 2] (mineCut c (m (c.tc.loc main_arg2))) transposes_S1024x8x128_S8x1024x128_1_0_2 := by
  rw [← v23_eq]
  show StableHlo.after (hostOps0 c) (V0 m c) (Proc.devRef .tc main_v24) = transpose S8x1024x128 [1, 0, 2]
    (StableHlo.after (hostOps0 c) (V0 m c) (Proc.devRef .tc main_v23)) transposes_S1024x8x128_S8x1024x128_1_0_2
  after_results

/-- The casts of the shipped values change nothing over the extended reals. -/
theorem v26_eq : V1 m c main_v26 = (V1 m c main_v24 : S8x1024x128.Idx → EReal) := by
  show StableHlo.after (hostOps0 c) (V0 m c) (Proc.devRef .tc main_v26) = StableHlo.after (hostOps0 c) (V0 m c) (Proc.devRef .tc main_v24)
  after_results
  rfl

/-! ## The region's inputs at an index -/

theorem heads_first (x : S1024x8x128.Idx → EReal) (h : Fin 8) (r : Fin 1024) (d : Fin 128) :
    transpose S8x1024x128 [1, 0, 2] x transposes_S1024x8x128_S8x1024x128_1_0_2 (ix3 h r d) = x (ix3 r h d) := by
  pointwise

theorem q_apply (r : Fin 1024) (h : Fin 8) (d : Fin 128) : (X m).q c (ix3 r h d) = m (c.tc.loc main_arg0) (ix4 0 r (headOf c h) d) := by
  show (win0_0.blk t0_0).view.read (Elt Ideal) (V1 m c main_v10) (ix3 r h d) = _
  rw [v10_eq]
  refine Eq.trans ?_ (mineCut_apply c _ r h d)
  refine congrArg (mineCut c (m (c.tc.loc main_arg0))) (funext fun a => Fin.ext ?_)
  match a with
  | 0 => show 0 + 1 * r.val = r.val; omega
  | 1 => show 0 + 1 * h.val = h.val; omega
  | 2 => show 0 + 1 * d.val = d.val; omega

theorem k_apply (h : Fin 8) (r : Fin 1024) (d : Fin 128) : (X m).k c (ix3 h r d) = m (c.tc.loc main_arg1) (ix4 0 r (headOf c h) d) := by
  show (win0_1.blk t0_0).view.read (Elt Ideal) (V1 m c main_v17) (ix3 h r d) = _
  rw [v17_eq]
  refine Eq.trans ?_ ((heads_first _ h r d).trans (mineCut_apply c _ r h d))
  refine congrArg (transpose S8x1024x128 [1, 0, 2] (mineCut c (m (c.tc.loc main_arg1))) transposes_S1024x8x128_S8x1024x128_1_0_2) (funext fun a => Fin.ext ?_)
  match a with
  | 0 => show 0 + 1 * h.val = h.val; omega
  | 1 => show 0 + 1 * r.val = r.val; omega
  | 2 => show 0 + 1 * d.val = d.val; omega

theorem v_apply (h : Fin 8) (r : Fin 1024) (d : Fin 128) : (X m).v c (ix3 h r d) = m (c.tc.loc main_arg2) (ix4 0 r (headOf c h) d) := by
  show (win0_2.blk t0_0).view.read (Elt Ideal) (V1 m c main_v24) (ix3 h r d) = _
  rw [v24_eq]
  refine Eq.trans ?_ ((heads_first _ h r d).trans (mineCut_apply c _ r h d))
  refine congrArg (transpose S8x1024x128 [1, 0, 2] (mineCut c (m (c.tc.loc main_arg2))) transposes_S1024x8x128_S8x1024x128_1_0_2) (funext fun a => Fin.ext ?_)
  match a with
  | 0 => show 0 + 1 * h.val = h.val; omega
  | 1 => show 0 + 1 * r.val = r.val; omega
  | 2 => show 0 + 1 * d.val = d.val; omega

theorem w_apply (h : Fin 8) (r : Fin 1024) (d : Fin 128) : (X m).w c (ix3 h r d) = m (c.tc.loc main_arg2) (ix4 0 r (headOf c h) d) := by
  show (win0_3.blk t0_0).view.read (Elt Ideal) (V1 m c main_v26) (ix3 h r d) = _
  rw [v26_eq, v24_eq]
  refine Eq.trans ?_ ((heads_first _ h r d).trans (mineCut_apply c _ r h d))
  refine congrArg (transpose S8x1024x128 [1, 0, 2] (mineCut c (m (c.tc.loc main_arg2))) transposes_S1024x8x128_S8x1024x128_1_0_2) (funext fun a => Fin.ext ?_)
  match a with
  | 0 => show 0 + 1 * h.val = h.val; omega
  | 1 => show 0 + 1 * r.val = r.val; omega
  | 2 => show 0 + 1 * d.val = d.val; omega

/-! ## The result -/

/-- The region leaves the device's result. -/
theorem arr_result : (dat m c).arrAt 4 cfg0.N = out (X m) c :=
  (dat m c).arrAt_eq_of_after_last 4 t0_0 (by decide +kernel) (out (X m) c) fun _ => rfl

theorem v28_apply (r : Fin 1024) (h : Fin 16) (d : Fin 128) : V3 m (outs m) c main_v28 (ix4 0 r h d) = out (X m) c (ix3 r h d) := by
  have e : V3 m (outs m) c main_v28 = broadcastInDim S1x1024x16x128 ![1, 2, 3] bcast_S1024x16x128_S1x1024x16x128_1_2_3 (out (X m) c) := by
    rw [← arr_result m c]
    show StableHlo.after hostOps1 (V2 m (outs m) c) (Proc.devRef .tc main_v28) = _
    after_results
    refine congrArg (fun z : S1024x16x128.Idx → EReal => broadcastInDim S1x1024x16x128 ![1, 2, 3] bcast_S1024x16x128_S1x1024x16x128_1_2_3 z) ?_
    exact (Function.update_self _ _ _).trans (Function.update_self _ _ _)
  rw [e]
  generalize out (X m) c = o
  pointwise

end Cert.KernelIdeal.Attn

end
-- ==== Proof.DeviceValue.lean ====
/- What a device's result is over the extended reals: the attention of its query rows, for every head, over all the keys
   and values. -/
module

public import proofs.«01_k».proof.Proof.HeadValue
public import proofs.«01_k».proof.Proof.HostValue

@[expose] public section

set_option maxRecDepth 16384

noncomputable section

namespace Cert.KernelIdeal.Attn

open Cert.Softmax Cert.KernelIdeal.Gen Idealize.ShloMosaic Idealize.ShloMosaic.TcCoe

/-! ## A head's slice of a buffer -/

theorem inH_ix3 (i : Fin 8) (j : Fin 1024) (d : Fin 128) : inH (ix3 i j d) = ix3 0 j d :=
  funext fun a => by match a with | 0 => rfl | 1 => rfl | 2 => rfl
theorem inO_ix3 (r : Fin 1024) (h : Fin 16) (d : Fin 128) : inO (ix3 r h d) = ix3 r 0 d :=
  funext fun a => by match a with | 0 => rfl | 1 => rfl | 2 => rfl

theorem hR_idx (i : Fin 8) (j : Fin 1024) (d : Fin 128) : (hR i).toLoadRect.idx (ix3 0 j d) = ix3 i j d := by
  obtain ⟨h0, h1⟩ := hR_emb i (ix3 0 j d)
  refine funext fun a => ?_
  match a with
  | 0 => exact h0
  | 1 => exact congrFun h1 1
  | 2 => exact congrFun h1 2

theorem qR_idx (i : Fin 8) (r : Fin 1024) (d : Fin 128) : (qR i).toLoadRect.idx (ix3 r 0 d) = ix3 r i d := by
  have hi : ∀ i : Fin 8, ((qR i).toLoadRect.idx (ix3 (0 : Fin 1024) (0 : Fin 1) (0 : Fin 128)) 1).val = i.val := by decide
  refine funext fun a => Fin.ext ?_
  match a with
  | 0 => show 0 + 1 * r.val = r.val; omega
  | 1 => exact hi i
  | 2 => show 0 + 1 * d.val = d.val; omega

section
variable (X : In Ideal) (c : Dev nD) (i : Fin 8) (r j : Fin 1024) (d : Fin 128)

theorem qS_apply : qS X c i (ix3 r 0 d) = X.q c (ix3 r i d) := congrArg (X.q c) (qR_idx i r d)
theorem kS_apply : kS X c i (ix3 0 j d) = X.k c (ix3 i j d) := congrArg (X.k c) (hR_idx i j d)
theorem vS_apply : vS X c i (ix3 0 j d) = X.v c (ix3 i j d) := congrArg (X.v c) (hR_idx i j d)
theorem koS_apply : koS X c i (ix3 0 j d) = X.k (yp c) (ix3 i j d) := congrArg (X.k (yp c)) (hR_idx i j d)
theorem voS_apply : voS X c i (ix3 0 j d) = X.w (yp c) (ix3 i j d) := congrArg (X.w (yp c)) (hR_idx i j d)

theorem own_apply : own X c i (ix3 r 0 d) = att (F := Ideal) (qS X c i) (kS X c i) (vS X c i) (koS X c i) (voS X c i) (ix2 r d) :=
  attO_apply _ _ _ _ _ r d

/-- What arrives from the other column is what that column's device computed. -/
theorem got_apply : got X c i (ix3 r 0 d) = own X (xp c) i (ix3 r 0 d) := by
  rw [got, twin_apply, own_apply]
  refine (congrArg (ob X (xp c)) (hR_idx i r d)).trans ?_
  show ship X (xp c) i (inH (ix3 i r d)) = _
  rw [inH_ix3]
  exact attB_apply _ _ _ _ _ r d

end

/-! ## A head's attention -/

/-- The whole arrays' shape. -/
abbrev SW : Shape := ⟨4, ![1, 2048, 16, 128]⟩

/-- A head's attention over its own rows and its peer's, of real queries and keys. -/
theorem att_real (q : Vec Ideal S1024x1x128 .bf16) (k v ko : Vec Ideal S1x1024x128 .bf16) (vo : Vec Ideal S1x1024x128 .fp8e4m3)
    (b : ℕ) (r : Fin 1024) (d : Fin 128) (Q : Fin 128 → ℝ) (K : Fin 2048 → Fin 128 → ℝ) (V : Fin 2048 → EReal)
    (hq : ∀ e, q (ix3 r 0 e) = (Q e : EReal))
    (hk : ∀ j e, k (ix3 0 j e) = (K (row b j) e : EReal)) (hko : ∀ j e, ko (ix3 0 j e) = (K (row (b + 1) j) e : EReal))
    (hv : ∀ j, v (ix3 0 j d) = V (row b j)) (hvo : ∀ j, vo (ix3 0 j d) = V (row (b + 1) j)) :
    att (F := Ideal) q k v ko vo (ix2 r d) = attend Q K V := by
  have hs : ∀ (k : Vec Ideal S1x1024x128 .bf16) (b : ℕ) (hk : ∀ j e, k (ix3 0 j e) = (K (row b j) e : EReal)) (j : Fin 1024),
      ex (F := Ideal) (qs q) k (ix2 r j) = Ideal.exp (score Q (K (row b j)) : EReal) := fun k b hk j => by
    rw [ex_apply, ← score_scaled]
    refine congrArg Ideal.exp (Finset.sum_congr rfl fun e _ => ?_)
    rw [qs_apply, hq, hk]
  unfold att
  rw [quot_apply, pv_apply, rs_apply, rs_apply, attend, sum_halves b, sum_halves b]
  simp only [hs k b hk, hs ko (b + 1) hko, hv, hvo]

section
variable (m : (ℓ : Loc nD τ sig) → Buf (Elt Ideal) ℓ) {Q K : SW.Idx → ℝ} {V : SW.Idx → EReal}

/-- Each device holds its rows of `Q`, `K` and `V`. -/
structure Holding (m : (ℓ : Loc nD τ sig) → Buf (Elt Ideal) ℓ) (Q K : SW.Idx → ℝ) (V : SW.Idx → EReal) : Prop where
  q : ∀ (c : Dev nD) r h d, m (c.tc.loc main_arg0) (ix4 0 r h d) = (Q (ix4 0 (row c.val r) h d) : EReal)
  k : ∀ (c : Dev nD) r h d, m (c.tc.loc main_arg1) (ix4 0 r h d) = (K (ix4 0 (row c.val r) h d) : EReal)
  v : ∀ (c : Dev nD) r h d, m (c.tc.loc main_arg2) (ix4 0 r h d) = V (ix4 0 (row c.val r) h d)

/-- The attention of query row `r`, head `h`, at `d`, over all rows. -/
def wholeAt (Q K : SW.Idx → ℝ) (V : SW.Idx → EReal) (r : Fin 2048) (h : Fin 16) (d : Fin 128) : EReal :=
  attend (fun e => Q (ix4 0 r h e)) (fun k e => K (ix4 0 k h e)) (fun k => V (ix4 0 k h d))

theorem headOf_yp (c : Dev nD) (i : Fin 8) : headOf (yp c) i = headOf c i := Fin.ext (by
  show 8 * ((c.val / 2 * 2 + (1 - c.val % 2)) / 2) + i.val = 8 * (c.val / 2) + i.val
  omega)
theorem row_yp (c : Dev nD) (j : Fin 1024) : row (yp c).val j = row (c.val + 1) j := Fin.ext (by
  show 1024 * ((c.val / 2 * 2 + (1 - c.val % 2)) % 2) + j.val = 1024 * ((c.val + 1) % 2) + j.val
  omega)
theorem row_xp (c : Dev nD) (j : Fin 1024) : row (xp c).val j = row c.val j := Fin.ext (by
  show 1024 * ((c.val + 2) % 4 % 2) + j.val = 1024 * (c.val % 2) + j.val
  omega)

theorem own_real (H : Holding m Q K V) (c : Dev nD) (i : Fin 8) (r : Fin 1024) (d : Fin 128) :
    own (X m) c i (ix3 r 0 d) = wholeAt Q K V (row c.val r) (headOf c i) d := by
  rw [own_apply]
  refine att_real _ _ _ _ _ c.val r d _ _ _ (fun e => ?_) (fun j e => ?_) (fun j e => ?_) (fun j => ?_) fun j => ?_
  · rw [qS_apply, q_apply, H.q]
  · rw [kS_apply, k_apply, H.k]
  · rw [koS_apply, k_apply, H.k, row_yp, headOf_yp]
  · rw [vS_apply, v_apply, H.v]
  · rw [voS_apply, w_apply, H.v, row_yp, headOf_yp]

/-- Each entry of a device's result. -/
theorem out_real (H : Holding m Q K V) (c : Dev nD) (r : Fin 1024) (h : Fin 16) (d : Fin 128) :
    out (X m) c (ix3 r h d) = wholeAt Q K V (row c.val r) h d := by
  have hc : c.val < 4 := c.isLt
  have hh : h.val < 16 := h.isLt
  show (if h.val / 8 = c.val / 2 then own (X m) c ⟨h.val % 8, _⟩ (inO (ix3 r h d)) else got (X m) c ⟨h.val % 8, _⟩ (inO (ix3 r h d))) = _
  rw [inO_ix3]
  split
  · next e =>
    rw [own_real m H, show headOf c ⟨h.val % 8, Nat.mod_lt _ (by decide)⟩ = h from
      Fin.ext (by show 8 * (c.val / 2) + h.val % 8 = h.val; omega)]
  · next e =>
    rw [got_apply, own_real m H, row_xp, show headOf (xp c) ⟨h.val % 8, Nat.mod_lt _ (by decide)⟩ = h from
      Fin.ext (by show 8 * ((c.val + 2) % 4 / 2) + h.val % 8 = h.val; omega)]

end

end Cert.KernelIdeal.Attn

end
-- ==== Proof.Value.lean ====
/- The value claim: each device's result is its block of the reference's. -/
module

public import proofs.«01_k».proof.Proof.Finite
public import proofs.«01_k».proof.Proof.RefValue
public import proofs.«01_k».proof.Proof.DeviceValue
public import proofs.«01_k».proof.Proof.Launched
public import proofs.«01_k».proof.Proof.Gen.ReferenceIdeal.Run

@[expose] public section

set_option maxRecDepth 16384

noncomputable section

namespace Cert.Value

open Cert.Softmax Cert.KernelIdeal.Attn Idealize.ShloMosaic Idealize.ShloMosaic.TcCoe Idealize.SL.Sem

/-- A device's block, at an index. -/
theorem block_apply (v : SW.Idx → EReal) (c : Dev 4) (r : Fin 1024) (h : Fin 16) (d : Fin 128) :
    (Layout.blockN ⟨4, ![1, 1024, 16, 128]⟩ ⟨4, ![1, 2048, 16, 128]⟩ (Layout.meshBlock [2, 2] ![[], [1], [], []] c) v) (ix4 0 r h d)
      = v (ix4 0 (row c.val r) h d) := by
  refine congrArg v (funext fun a => Fin.ext ?_)
  rw [Layout.TilesN.idx_val]
  match a with
  | 0 => rfl
  | 1 =>
    show (c.val / 1 % 2 * 1 + 0) * 1024 + r.val = 1024 * (c.val % 2) + r.val
    omega
  | 2 => show 0 * 16 + h.val = h.val; omega
  | 3 => show 0 * 128 + d.val = d.val; omega

/-- An array all of whose devices' blocks are real is real. -/
theorem real_of_blocks (v : SW.Idx → EReal)
    (H : ∀ (c : Dev 4) r h d, ∃ x : ℝ, v (ix4 0 (row c.val r) h d) = (x : EReal)) : ∃ R : SW.Idx → ℝ, ∀ i, v i = (R i : EReal) := by
  suffices A : ∀ i, ∃ x : ℝ, v i = (x : EReal) from ⟨fun i => (A i).choose, fun i => (A i).choose_spec⟩
  intro i
  have h1 : (i 1).val < 2048 := (i 1).isLt
  obtain ⟨x, hx⟩ := H ⟨(i 1).val / 1024, by omega⟩ ⟨(i 1).val % 1024, Nat.mod_lt _ (by decide)⟩ (i 2) (i 3)
  refine ⟨x, hx ▸ congrArg v (funext fun a => Fin.ext ?_)⟩
  match a with
  | 0 => have h0 : (i 0).val < 1 := (i 0).isLt; show (i 0).val = 0; omega
  | 1 => show (i 1).val = 1024 * ((i 1).val / 1024 % 2) + (i 1).val % 1024; omega
  | 2 => rfl
  | 3 => rfl

/-- Blocks are equal where all their entries are. -/
theorem ext_block {f g : (⟨4, ![1, 1024, 16, 128]⟩ : Shape).Idx → EReal} (H : ∀ r h d, f (ix4 0 r h d) = g (ix4 0 r h d)) : f = g :=
  funext fun i => by
    have hi : i = ix4 0 (i 1) (i 2) (i 3) := funext fun a => by
      match a with
      | 0 => exact Fin.ext (by have h0 : (i 0).val < 1 := (i 0).isLt; show (i 0).val = 0; omega)
      | 1 => rfl
      | 2 => rfl
      | 3 => rfl
    rw [hi]
    exact H _ _ _

theorem algebraic : algebraic_KernelIdeal_ReferenceIdeal_pre_finite_qk_KernelIdeal := fun m g m' g' hpre hargs => by
  set q := m' (((0 : Dev Cert.ReferenceIdeal.nD).tc : Thread Cert.ReferenceIdeal.nD Cert.ReferenceIdeal.τ).loc Cert.ReferenceIdeal.main_arg0)
  set k := m' (((0 : Dev Cert.ReferenceIdeal.nD).tc : Thread Cert.ReferenceIdeal.nD Cert.ReferenceIdeal.τ).loc Cert.ReferenceIdeal.main_arg1)
  set v := m' (((0 : Dev Cert.ReferenceIdeal.nD).tc : Thread Cert.ReferenceIdeal.nD Cert.ReferenceIdeal.τ).loc Cert.ReferenceIdeal.main_arg2)
  have eq : ∀ (c : Dev 4) r h d, m (c.tc.loc Cert.KernelIdeal.main_arg0) (ix4 0 r h d) = q (ix4 0 (row c.val r) h d) :=
    fun c r h d => (congrFun (hargs c).1 _).trans (block_apply q c r h d)
  have ek : ∀ (c : Dev 4) r h d, m (c.tc.loc Cert.KernelIdeal.main_arg1) (ix4 0 r h d) = k (ix4 0 (row c.val r) h d) :=
    fun c r h d => (congrFun (hargs c).2.1 _).trans (block_apply k c r h d)
  have ev : ∀ (c : Dev 4) r h d, m (c.tc.loc Cert.KernelIdeal.main_arg2) (ix4 0 r h d) = v (ix4 0 (row c.val r) h d) :=
    fun c r h d => (congrFun (hargs c).2.2 _).trans (block_apply v c r h d)
  obtain ⟨Q, hQ⟩ := real_of_blocks q fun c r h d => eq c r h d ▸ (Cert.Finite.of_pre _ _ _ (hpre c)).1 _
  obtain ⟨K, hK⟩ := real_of_blocks k fun c r h d => ek c r h d ▸ (Cert.Finite.of_pre _ _ _ (hpre c)).2 _
  have H : Holding m Q K v :=
    ⟨fun c r h d => (eq c r h d).trans (hQ _), fun c r h d => (ek c r h d).trans (hK _), ev⟩
  refine ⟨Cert.ReferenceIdeal.Read.val_main_v17 (F := Ideal) q k v, ?_, ?_⟩
  · refine (θ_run _ _ _).mono (fun r h c => ⟨(h.1 c).2.trans ?_, (h.1 c).1⟩) (run_main (F := Ideal) m g)
    refine ext_block fun r h d => ?_
    exact (v28_apply m c r h d).trans ((out_real m H c r h d).trans
      ((Cert.ReferenceIdeal.Read.v17_real hQ hK v _ h d).symm.trans (block_apply _ c r h d).symm))
  · exact (θ_run _ _ _).mono (fun r h => ⟨((h 0).1.trans (Cert.ReferenceIdeal.Read.val_main_v17_eq _ _ _)), (h 0).2⟩)
      (Cert.ReferenceIdeal.Value.run (F := Ideal) m' g')

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Finite.kernelFacts, Cert.Finite.referenceFacts,
    Cert.Printed.frame, Cert.Frames.kernelIdeal, Cert.Frames.kernelIdeal_pre, Cert.Frames.referenceIdeal, Cert.Frames.referenceIdeal_pre,
    Cert.Frames.preserves, Cert.Value.algebraic⟩

end Cert.Proof

end
